-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range [hPre_scale_in_range : Cert.Pre_scale_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range [hPre_scale_in_range : Cert.Pre_scale_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_in_range [hKernelIdeal : Cert.KernelIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_in_range [hReferenceIdeal : Cert.ReferenceIdeal.Facts] [hPre_scale_in_range : Cert.Pre_scale_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scale_in_range [hKernelIdeal : Cert.KernelIdeal.Facts] [hReferenceIdeal : Cert.ReferenceIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_in_range : Cert.Pre_scale_in_range.Facts),
    quiescent_Kernel (hKernel := hKernel)
    ∧ quiescent_KernelIdeal (hKernelIdeal := hKernelIdeal)
    ∧ quiescent_KernelIdeal_pre_scale_in_range (hKernelIdeal := hKernelIdeal) (hPre_scale_in_range := hPre_scale_in_range)
    ∧ quiescent_ReferenceIdeal (hReferenceIdeal := hReferenceIdeal)
    ∧ quiescent_ReferenceIdeal_pre_scale_in_range (hReferenceIdeal := hReferenceIdeal) (hPre_scale_in_range := hPre_scale_in_range)
    ∧ preserves_Kernel_KernelIdeal
    ∧ algebraic_KernelIdeal_ReferenceIdeal_pre_scale_in_range (hKernelIdeal := hKernelIdeal) (hReferenceIdeal := hReferenceIdeal) (hPre_scale_in_range := hPre_scale_in_range)
-- ==== Pre_scale_in_range.lean ====
abbrev S6x1024x1280 : Shape := ⟨3, ![6, 1024, 1280]⟩
abbrev S_ : Shape := ⟨0, ![]⟩
abbrev S6x1024x5120 : Shape := ⟨3, ![6, 1024, 5120]⟩
abbrev S1280x5120 : Shape := ⟨2, ![1280, 5120]⟩

class Facts : Prop where
  bitsLt_bf16_f32 : FTy.bits .bf16 < FTy.bits .f32
  reducesTo_S6x1024x5120_S_d0_1_2 : S6x1024x5120.ReducesTo [0, 1, 2] S_
  h_S_ : 0 < S_.numel

variable [Facts]

def fn {F : FTy → Type} [FloatOps F] (main_arg0 : FVec F S6x1024x1280 .fp8e4m3) (main_arg1 : FVec F S_ .f32) (main_arg2 : FVec F S6x1024x5120 .bf16) (main_arg3 : FVec F S1280x5120 .f32) : IVec S_ 1 :=
  let main_v0 : FVec F S6x1024x5120 .f32 := (extf .f32 · bitsLt_bf16_f32) main_arg2
  let main_v1 : FVec F S6x1024x5120 .f32 := Host.absf main_v0
  let main_cst : FVec F S_ .f32 := constant S_ .f32 0xFF800000#32
  let main_v2 : FVec F S_ .f32 := (fun x v => Host.reduce FloatOps.maximumf x v reducesTo_S6x1024x5120_S_d0_1_2 h_S_) main_v1 main_cst
  let main_cst_0 : FVec F S_ .f32 := constant S_ .f32 0x37924925#32
  let main_v3 : FVec F S_ .f32 := mulf main_v2 main_cst_0
  let main_cst_1 : FVec F S_ .f32 := constant S_ .f32 0x00000000#32
  let main_v4 : IVec S_ 1 := cmpf .oeq main_v3 main_cst_1
  let main_cst_2 : FVec F S_ .f32 := constant S_ .f32 0x00800000#32
  let main_v5 : IVec S_ 1 := cmpf .oge main_v3 main_cst_2
  let main_cst_3 : FVec F S_ .f32 := constant S_ .f32 0x7E800000#32
  let main_v6 : IVec S_ 1 := cmpf .olt main_v3 main_cst_3
  let main_v7 : IVec S_ 1 := andi main_v5 main_v6
  let main_v8 : IVec S_ 1 := ori main_v4 main_v7
  main_v8
-- ==== Kernel.lean ====
abbrev S6x1024x1280 : Shape := ⟨3, ![6, 1024, 1280]⟩
abbrev S_ : Shape := ⟨0, ![]⟩
abbrev S6x1024x5120 : Shape := ⟨3, ![6, 1024, 5120]⟩
abbrev S1280x5120 : Shape := ⟨2, ![1280, 5120]⟩
abbrev S6144x1280 : Shape := ⟨2, ![6144, 1280]⟩
abbrev S6144x5120 : Shape := ⟨2, ![6144, 5120]⟩
abbrev S1x1 : Shape := ⟨2, ![1, 1]⟩
abbrev S512x5120 : Shape := ⟨2, ![512, 5120]⟩
abbrev S16x5120 : Shape := ⟨2, ![16, 5120]⟩
abbrev S32x16x5120 : Shape := ⟨3, ![32, 16, 5120]⟩
abbrev S1x16x5120 : Shape := ⟨3, ![1, 16, 5120]⟩
abbrev S1 : Shape := ⟨1, ![1]⟩
abbrev S1x1x1 : Shape := ⟨3, ![1, 1, 1]⟩
abbrev S8x128 : Shape := ⟨2, ![8, 128]⟩
abbrev S6144x256 : Shape := ⟨2, ![6144, 256]⟩
abbrev S1280x256 : Shape := ⟨2, ![1280, 256]⟩

abbrev nBuf : Space → Nat
  | .hbm => 11
  | .vmem => 12
  | .smem => 5
  | _ => 0

abbrev bufTy : (tb : Table) → Fin (tcTables nBuf tb) → BufTy
  | .hbm, ⟨0, _⟩ => ⟨S6x1024x1280, .fp8e4m3⟩
  | .hbm, ⟨1, _⟩ => ⟨S_, .f32⟩
  | .hbm, ⟨2, _⟩ => ⟨S6x1024x5120, .bf16⟩
  | .hbm, ⟨3, _⟩ => ⟨S1280x5120, .f32⟩
  | .hbm, ⟨4, _⟩ => ⟨S6144x1280, .fp8e4m3⟩
  | .hbm, ⟨5, _⟩ => ⟨S6144x5120, .bf16⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1280x5120, .f32⟩
  | .hbm, ⟨10, _⟩ => ⟨S6144x5120, .fp8e5m2⟩
  | .local _ .vmem, ⟨0, _⟩ => ⟨S512x5120, .bf16⟩
  | .local _ .vmem, ⟨1, _⟩ => ⟨S512x5120, .bf16⟩
  | .local _ .vmem, ⟨2, _⟩ => ⟨S16x5120, .bf16⟩
  | .local _ .vmem, ⟨3, _⟩ => ⟨S6144x1280, .fp8e4m3⟩
  | .local _ .vmem, ⟨4, _⟩ => ⟨S6144x256, .bf16⟩
  | .local _ .vmem, ⟨5, _⟩ => ⟨S6144x256, .bf16⟩
  | .local _ .vmem, ⟨6, _⟩ => ⟨S1280x256, .f32⟩
  | .local _ .vmem, ⟨7, _⟩ => ⟨S1280x256, .f32⟩
  | .local _ .vmem, ⟨8, _⟩ => ⟨S1280x256, .f32⟩
  | .local _ .vmem, ⟨9, _⟩ => ⟨S1280x256, .f32⟩
  | .local _ .vmem, ⟨10, _⟩ => ⟨S6144x256, .fp8e5m2⟩
  | .local _ .vmem, ⟨11, _⟩ => ⟨S6144x256, .fp8e5m2⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S6x1024x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg4_1 : Ref sig .tc := ⟨.vmem, 5, rfl⟩
abbrev cc1_stg5_0 : Ref sig .tc := ⟨.vmem, 6, rfl⟩
abbrev cc1_stg5_1 : Ref sig .tc := ⟨.vmem, 7, rfl⟩
abbrev cc1_stg6_0 : Ref sig .tc := ⟨.vmem, 8, rfl⟩
abbrev cc1_stg6_1 : Ref sig .tc := ⟨.vmem, 9, rfl⟩
abbrev cc1_stg7_0 : Ref sig .tc := ⟨.vmem, 10, rfl⟩
abbrev cc1_stg7_1 : Ref sig .tc := ⟨.vmem, 11, rfl⟩
abbrev cc0_stg1_0 : Ref sig .tc := ⟨.smem, 0, rfl⟩
abbrev cc0_stg2_0 : Ref sig .tc := ⟨.smem, 1, rfl⟩
abbrev cc1_stg0_0 : Ref sig .tc := ⟨.smem, 2, rfl⟩
abbrev cc1_stg1_0 : Ref sig .tc := ⟨.smem, 3, rfl⟩
abbrev cc1_stg2_0 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v13 : BitVec 1 := Scalar.cmpi .eq arg0 c11_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6144x1280 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6144x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1280x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1280x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S6144x256 .fp8e5m2 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S6x1024x1280 : Shape := ⟨3, ![6, 1024, 1280]⟩
abbrev S_ : Shape := ⟨0, ![]⟩
abbrev S6x1024x5120 : Shape := ⟨3, ![6, 1024, 5120]⟩
abbrev S1280x5120 : Shape := ⟨2, ![1280, 5120]⟩
abbrev S6144x1280 : Shape := ⟨2, ![6144, 1280]⟩
abbrev S1x1 : Shape := ⟨2, ![1, 1]⟩
abbrev S6144x5120 : Shape := ⟨2, ![6144, 5120]⟩
abbrev S1x6144x5120 : Shape := ⟨3, ![1, 6144, 5120]⟩
abbrev S1 : Shape := ⟨1, ![1]⟩
abbrev S1x1x1 : Shape := ⟨3, ![1, 1, 1]⟩

abbrev nBuf : Space → Nat
  | .hbm => 10
  | .vmem => 5
  | .smem => 2
  | _ => 0

abbrev bufTy : (tb : Table) → Fin (tcTables nBuf tb) → BufTy
  | .hbm, ⟨0, _⟩ => ⟨S6x1024x1280, .fp8e4m3⟩
  | .hbm, ⟨1, _⟩ => ⟨S_, .f32⟩
  | .hbm, ⟨2, _⟩ => ⟨S6x1024x5120, .bf16⟩
  | .hbm, ⟨3, _⟩ => ⟨S1280x5120, .f32⟩
  | .hbm, ⟨4, _⟩ => ⟨S6144x1280, .fp8e4m3⟩
  | .hbm, ⟨5, _⟩ => ⟨S1x1, .f32⟩
  | .hbm, ⟨6, _⟩ => ⟨S6144x5120, .bf16⟩
  | .hbm, ⟨7, _⟩ => ⟨S1280x5120, .f32⟩
  | .hbm, ⟨8, _⟩ => ⟨S6144x5120, .fp8e5m2⟩
  | .hbm, ⟨9, _⟩ => ⟨S1x1, .f32⟩
  | .local _ .vmem, ⟨0, _⟩ => ⟨S6144x1280, .fp8e4m3⟩
  | .local _ .vmem, ⟨1, _⟩ => ⟨S6144x5120, .bf16⟩
  | .local _ .vmem, ⟨2, _⟩ => ⟨S1280x5120, .f32⟩
  | .local _ .vmem, ⟨3, _⟩ => ⟨S1280x5120, .f32⟩
  | .local _ .vmem, ⟨4, _⟩ => ⟨S6144x5120, .fp8e5m2⟩
  | .local _ .smem, ⟨0, _⟩ => ⟨S1x1, .f32⟩
  | .local _ .smem, ⟨1, _⟩ => ⟨S1x1, .f32⟩
  | _, _ => ⟨S6x1024x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg1_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x5120 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KB.AmaxSetup.lean ====
/- The amax call of Kernel, entered at any buffer contents `V`: the block of dy at each point, the body's two branch
   conditions in closed form (first point, last point), where the two outputs are idle, and the staging and scratch buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the elaborator's structural look recurses once per coordinate
set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x1 .f32 := (Memref.whole cc0_stg1_0 : Memref sig .tc .smem S1x1 .f32).view
/-- One staging buffer of output window 2, through which its contents are stated (`View.read_writes_of_cover`: the
    choice does not matter). -/
abbrev VO0_2 : View sig .tc .smem S1x1 .f32 := (Memref.whole cc0_stg2_0 : Memref sig .tc .smem S1x1 .f32).view
/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x5120 .bf16 := Memref.whole cc0_scratch0
/-- The scratch `arg4` the kernel carries between points, as a view: what it holds is stated through it. -/
abbrev VS0_0 : View sig .tc .vmem S16x5120 .bf16 := scM0_0.view

/-- The scoped buffers beside the running maximum that no staging buffer of this call is: the other call's staging
    buffers, each whole at some contents. The call does not touch them. -/
def others (c : Dev nD) : sProp 𝕄 :=
  bigSepL [cc1_stg3_0, cc1_stg4_0, cc1_stg4_1, cc1_stg5_0, cc1_stg5_1, cc1_stg6_0, cc1_stg6_1, cc1_stg7_0, cc1_stg7_1, cc1_stg0_0, cc1_stg1_0, cc1_stg2_0]
    (fun b : Ref sig .tc => iprop(∃ f : Buf (Elt F) ((c : Thread nD τ).loc b), ((c : Thread nD τ).loc b) ↦{fullShare} f))

/-- The region's invariant before its first point: the running maximum's buffer at some contents, the other scoped
    buffers, the generator register at some state. -/
theorem PhiA0_eq (c : Dev nD) :
    (Pipeline.ΦA spec0 c : sProp 𝕄)
      = iprop(iprop((∃ d, owns (c : Thread nD τ) scM0_0 fullShare d) ∗ others (F := F) c) ∗ (∃ r, prngReg c r)) := by
  unfold Pipeline.ΦA; rw [scopedRest0_eq]; simp only [scM0_0, owns_whole]; unfold others; rfl

end Cert.Proof.KB

end
-- ==== Proof.KB.AmaxRunA.lean ====
/- The amax call of Kernel: its body run whole at the first point, and what its stores leave. -/
module

public import proofs.«01_k».proof.Proof.KB.AmaxSetup

@[expose] public section

-- membership in a rectangle of production extents: the elaborator's structural look recurses once per coordinate
set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) :
    Σ' (L1 : List (View.Piece (Elt F) S1x1 .f32)), Σ' (L2 : List (View.Piece (Elt F) S1x1 .f32)), { LS0 : List (View.Piece (Elt F) S16x5120 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨[], [], ?_, fun xi1 xi2 E K => ?run⟩
  case run =>
    simp only [cc0__amax_kernel_eq_skeleton]; unfold cc0__amax_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Proof.KB

end
-- ==== Proof.KB.AmaxRunB.lean ====
/- The amax call of Kernel: its body run whole at a middle point, and what its stores leave. -/
module

public import proofs.«01_k».proof.Proof.KB.AmaxRunA

@[expose] public section

-- membership in a rectangle of production extents: the elaborator's structural look recurses once per coordinate
set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 10: 10 of 12), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) :
    Σ' (L1 : List (View.Piece (Elt F) S1x1 .f32)), Σ' (L2 : List (View.Piece (Elt F) S1x1 .f32)), { LS0 : List (View.Piece (Elt F) S16x5120 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨[], [], ?_, fun xi1 xi2 E K => ?run⟩
  case run =>
    simp only [cc0__amax_kernel_eq_skeleton]; unfold cc0__amax_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Proof.KB

end
-- ==== Proof.KB.AmaxRunC.lean ====
/- The amax call of Kernel: its body run whole at the last point, and what its stores leave. -/
module

public import proofs.«01_k».proof.Proof.KB.AmaxRunB

@[expose] public section

-- membership in a rectangle of production extents: the elaborator's structural look recurses once per coordinate
set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken: points 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) :
    Σ' (L1 : List (View.Piece (Elt F) S1x1 .f32)), Σ' (L2 : List (View.Piece (Elt F) S1x1 .f32)), { LS0 : List (View.Piece (Elt F) S16x5120 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨?_, ?_, ?_, fun E K => ?run⟩
  case run =>
    simp only [cc0__amax_kernel_eq_skeleton]; unfold cc0__amax_kernel_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.Proof.KB

end
-- ==== Proof.KB.Amax.lean ====
/- The amax call of Kernel as a region: what its two outputs and the running maximum hold after each point, the
   proof data over that invariant, and the body obligation at every point. -/
module

public import proofs.«01_k».proof.Proof.KB.AmaxRunC

@[expose] public section

-- membership in a rectangle of production extents: the elaborator's structural look recurses once per coordinate
set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) : Vec F S1x1 .f32 :=
  VO0_1.read (Elt F) (VO0_1.writes (Elt F) VO0_1.junk (kernelRun0_A c i arg1 harg1 arg2 harg2 arg3 harg3 arg4 harg4 hc0 hc1 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) : Vec F S1x1 .f32 :=
  VO0_2.read (Elt F) (VO0_2.writes (Elt F) VO0_2.junk (kernelRun0_A c i arg1 harg1 arg2 harg2 arg3 harg3 arg4 harg4 hc0 hc1 x0).2.1)

/-- Case A's pieces for scratch `arg4`, which the kernel carries between points, cover it: 2 pieces of `S16x5120` tiling it (Lib/Ring.lean `Piece.tiledL`). -/
theorem scover0_A_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) (y : S16x5120.Idx) :
    ∃ pc ∈ (kernelRun0_A c i arg1 harg1 arg2 harg2 arg3 harg3 arg4 harg4 hc0 hc1 x0).2.2.1, y ∈ pc.1.set :=
  View.cover_of_tiledL (kernelRun0_A c i arg1 harg1 arg2 harg2 arg3 harg3 arg4 harg4 hc0 hc1 x0).2.2.1 S16x5120.size (by sl_kernel_rfl) y

/-- What case A leaves in scratch `arg4`: its pieces read back over junk. -/
def sout0_A_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) : Vec F S16x5120 .bf16 :=
  VS0_0.read (Elt F) (VS0_0.writes (Elt F) VS0_0.junk (kernelRun0_A c i arg1 harg1 arg2 harg2 arg3 harg3 arg4 harg4 hc0 hc1 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) : Vec F S1x1 .f32 :=
  VO0_1.read (Elt F) (VO0_1.writes (Elt F) VO0_1.junk (kernelRun0_B c i arg1 harg1 arg2 harg2 arg3 harg3 arg4 harg4 hc0 hc1 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) : Vec F S1x1 .f32 :=
  VO0_2.read (Elt F) (VO0_2.writes (Elt F) VO0_2.junk (kernelRun0_B c i arg1 harg1 arg2 harg2 arg3 harg3 arg4 harg4 hc0 hc1 x0 xs0).2.1)

/-- Case B's pieces for scratch `arg4`, which the kernel carries between points, cover it: 1 piece of `S16x5120` tiling it (Lib/Ring.lean `Piece.tiledL`). -/
theorem scover0_B_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) (y : S16x5120.Idx) :
    ∃ pc ∈ (kernelRun0_B c i arg1 harg1 arg2 harg2 arg3 harg3 arg4 harg4 hc0 hc1 x0 xs0).2.2.1, y ∈ pc.1.set :=
  View.cover_of_tiledL (kernelRun0_B c i arg1 harg1 arg2 harg2 arg3 harg3 arg4 harg4 hc0 hc1 x0 xs0).2.2.1 S16x5120.size (by sl_kernel_rfl) y

/-- What case B leaves in scratch `arg4`: its pieces read back over junk. -/
def sout0_B_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) : Vec F S16x5120 .bf16 :=
  VS0_0.read (Elt F) (VS0_0.writes (Elt F) VS0_0.junk (kernelRun0_B c i arg1 harg1 arg2 harg2 arg3 harg3 arg4 harg4 hc0 hc1 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) (y : S1x1.Idx) :
    ∃ pc ∈ (kernelRun0_C c i arg1 harg1 arg2 harg2 arg3 harg3 arg4 harg4 hc0 hc1 x0 xs0).1, y ∈ pc.1.set :=
  View.cover_of_tiledL (kernelRun0_C c i arg1 harg1 arg2 harg2 arg3 harg3 arg4 harg4 hc0 hc1 x0 xs0).1 S1x1.size (by sl_kernel_rfl) y

/-- What case C leaves in output 1's staging buffer: its pieces read back over junk. -/
def out0_C_1 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) : Vec F S1x1 .f32 :=
  VO0_1.read (Elt F) (VO0_1.writes (Elt F) VO0_1.junk (kernelRun0_C c i arg1 harg1 arg2 harg2 arg3 harg3 arg4 harg4 hc0 hc1 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) (y : S1x1.Idx) :
    ∃ pc ∈ (kernelRun0_C c i arg1 harg1 arg2 harg2 arg3 harg3 arg4 harg4 hc0 hc1 x0 xs0).2.1, y ∈ pc.1.set :=
  View.cover_of_tiledL (kernelRun0_C c i arg1 harg1 arg2 harg2 arg3 harg3 arg4 harg4 hc0 hc1 x0 xs0).2.1 S1x1.size (by sl_kernel_rfl) y

/-- What case C leaves in output 2's staging buffer: its pieces read back over junk. -/
def out0_C_2 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) : Vec F S1x1 .f32 :=
  VO0_2.read (Elt F) (VO0_2.writes (Elt F) VO0_2.junk (kernelRun0_C c i arg1 harg1 arg2 harg2 arg3 harg3 arg4 harg4 hc0 hc1 x0 xs0).2.1)

/-- Case C's pieces for scratch `arg4`, which the kernel carries between points, cover it: 1 piece of `S16x5120` tiling it (Lib/Ring.lean `Piece.tiledL`). -/
theorem scover0_C_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) (y : S16x5120.Idx) :
    ∃ pc ∈ (kernelRun0_C c i arg1 harg1 arg2 harg2 arg3 harg3 arg4 harg4 hc0 hc1 x0 xs0).2.2.1, y ∈ pc.1.set :=
  View.cover_of_tiledL (kernelRun0_C c i arg1 harg1 arg2 harg2 arg3 harg3 arg4 harg4 hc0 hc1 x0 xs0).2.2.1 S16x5120.size (by sl_kernel_rfl) y

/-- What case C leaves in scratch `arg4`: its pieces read back over junk. -/
def sout0_C_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) : Vec F S16x5120 .bf16 :=
  VS0_0.read (Elt F) (VS0_0.writes (Elt F) VS0_0.junk (kernelRun0_C c i arg1 harg1 arg2 harg2 arg3 harg3 arg4 harg4 hc0 hc1 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S16x5120 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 12 = 0 then
      if h1 : (n + 1) % 12 = 11 then
        False.elim (by have hN : n + 1 < 12 := lt_of_lt_of_eq hn (show cfg0.N = 12 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 12 = 11 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

/-- `outsAt0` at a point of case A: that case's contents. -/
theorem outsAt0_A (c : Dev nD) (t : Fin cfg0.N) (h0 : t.val % 12 = 0) (h1 : ¬t.val % 12 = 11) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 12 = 0) (h1 : ¬t.val % 12 = 11) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 12 = 0) (h1 : t.val % 12 = 11) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2) ∗ others (F := F) c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ others (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 12 := lt_of_lt_of_eq t.isLt (show cfg0.N = 12 from N_0)
  by_cases h0 : t.val % 12 = 0
  · by_cases h1 : t.val % 12 = 11
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t)).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _)
            iexact Hoth
          iexact Hg
        isplitl [Ho]; · iexact Ho
        isplitl [H0]; · iexact H0
        isplitl [H1]; · iexists _; iexact H1
        iexists _; iexact H2
      · exfalso; have hN : t.val < 12 := lt_of_lt_of_eq t.isLt (show cfg0.N = 12 from N_0); omega
  · by_cases h1 : t.val % 12 = 11
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      by_cases hz : t.val = 0
      · exfalso; have hN : t.val < 12 := lt_of_lt_of_eq t.isLt (show cfg0.N = 12 from N_0); omega
      · rw [PhiS_castSucc V c t, PhiS_pos V c _ _ hz]
        rw [outsAt0_C V c t h0 h1]
        unfold out0_C_1 out0_C_2 sout0_C_0; (try dsimp only)
        iintro ⟨⟨⟨HS0, Hoth⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) _).2.2.2 Set.univ _)
        isplitl [H0]; · iexact H0
        isplitl [H1]; · iexists _; iexact H1
        isplitl [H2]; · iexists _; iexact H2
        isplitl [HS0]; · iexact HS0
        iintro ⟨H0, ⟨%e1, H1⟩, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _)
            iexact Hoth
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _)
        unfold owns; iexists _; isplitr
        swap; · iexact H2
        ipureintro; exact View.read_writes_of_cover _ _ _ _ _ (cover0_C_2 c _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 12 := lt_of_lt_of_eq t.isLt (show cfg0.N = 12 from N_0); omega
      · rw [PhiS_castSucc V c t, PhiS_pos V c _ _ hz]
        rw [outsAt0_B V c t h0 h1]
        unfold sout0_B_0; (try dsimp only)
        iintro ⟨⟨⟨HS0, Hoth⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) _).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _)
            iexact Hoth
          iexact Hg
        isplitl [Ho]; · iexact Ho
        isplitl [H0]; · iexact H0
        isplitl [H1]; · iexists _; iexact H1
        iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out V c _ (by rw [Fin.val_last]; have : cfg0.N = 12 := N_0; omega)

end Cert.Proof.KB

end
-- ==== Proof.KB.Wgrad.lean ====
/- The wgrad call of Kernel as a region, entered at any buffer contents `V`: each window's block at a point, the body
   run whole, what it leaves in the two outputs, the proof data and the body obligation. -/
module

public import proofs.«01_k».proof.Proof.KB.AmaxSetup

@[expose] public section

-- membership in a rectangle of production extents: the elaborator's structural look recurses once per coordinate
set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! # REGION 1 of @main: custom_call 1, `cc1__wgrad_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S1280x256 .f32 := (Memref.whole cc1_stg6_0 : Memref sig .tc .vmem S1280x256 .f32).view
/-- One staging buffer of output window 7, through which its contents are stated (`View.read_writes_of_cover`: the
    choice does not matter). -/
abbrev VO1_7 : View sig .tc .vmem S6144x256 .fp8e5m2 := (Memref.whole cc1_stg7_0 : Memref sig .tc .vmem S6144x256 .fp8e5m2).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6144x1280 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6144x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1280x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1280x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S6144x256 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) :
    Σ' (L6 : List (View.Piece (Elt F) S1280x256 .f32)), { L7 : List (View.Piece (Elt F) S6144x256 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1__wgrad_kernel i arg1 harg1 arg2 harg2 arg3 harg3 arg4 harg4 arg5 harg5 arg6 harg6 arg7 harg7 arg8 harg8) K } := by
  refine ⟨?_, ?_, fun E K => ?run⟩
  case run =>
    simp only [cc1__wgrad_kernel_eq_skeleton]; unfold cc1__wgrad_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- The run's pieces for output 6 tile its block (1 store of `S1280x256`, checked by the kernel's evaluation: Lib/Ring.lean `Piece.tiledL`, linear in the pieces, through a loop's `@[irreducible]` trip theorem too), so they cover it. -/
theorem cover1_A_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) (y : S1280x256.Idx) :
    ∃ pc ∈ (kernelRun1_A c i arg1 harg1 arg2 harg2 arg3 harg3 arg4 harg4 arg5 harg5 arg6 harg6 arg7 harg7 arg8 harg8 x0 x1 x2 x3 x4 x5).1, y ∈ pc.1.set :=
  View.cover_of_tiledL (kernelRun1_A c i arg1 harg1 arg2 harg2 arg3 harg3 arg4 harg4 arg5 harg5 arg6 harg6 arg7 harg7 arg8 harg8 x0 x1 x2 x3 x4 x5).1 S1280x256.size (by sl_kernel_rfl) y

/-- What the run leaves in output 6's staging buffer: its pieces read back over junk. -/
def out1_A_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) : Vec F S1280x256 .f32 :=
  VO1_6.read (Elt F) (VO1_6.writes (Elt F) VO1_6.junk (kernelRun1_A c i arg1 harg1 arg2 harg2 arg3 harg3 arg4 harg4 arg5 harg5 arg6 harg6 arg7 harg7 arg8 harg8 x0 x1 x2 x3 x4 x5).1)

/-- The run's pieces for output 7 tile its block (1 store of `S6144x256`, checked by the kernel's evaluation: Lib/Ring.lean `Piece.tiledL`, linear in the pieces, through a loop's `@[irreducible]` trip theorem too), so they cover it. -/
theorem cover1_A_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) (y : S6144x256.Idx) :
    ∃ pc ∈ (kernelRun1_A c i arg1 harg1 arg2 harg2 arg3 harg3 arg4 harg4 arg5 harg5 arg6 harg6 arg7 harg7 arg8 harg8 x0 x1 x2 x3 x4 x5).2.1, y ∈ pc.1.set :=
  View.cover_of_tiledL (kernelRun1_A c i arg1 harg1 arg2 harg2 arg3 harg3 arg4 harg4 arg5 harg5 arg6 harg6 arg7 harg7 arg8 harg8 x0 x1 x2 x3 x4 x5).2.1 S6144x256.size (by sl_kernel_rfl) y

/-- What the run leaves in output 7's staging buffer: its pieces read back over junk. -/
def out1_A_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) : Vec F S6144x256 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 x0 x1 x2 x3 x4 x5).2.1)

/-! ## What the outputs hold after each point -/

/-- What the outputs' staging buffers hold after the body at point `t` (as a tuple, in window order): the run's contents at
    the point's memrefs and input blocks. -/
def outsAt1 (c : Dev nD) (t : Fin cfg1.N) : Vec F S1280x256 .f32 × Vec F S6144x256 .fp8e5m2 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outsAt1
  unfold out1_A_6 out1_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _)
  unfold owns; iexists _; isplitr
  swap; · iexact H7
  ipureintro; exact View.read_writes_of_cover _ _ _ _ _ (cover1_A_7 c _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Proof.KB

end
-- ==== Proof.KB.Run.lean ====
/- The run of Kernel: its two calls among the host reshapes, the buffer contents at every boundary, the two regions
   as segments, and what every final state holds. -/
module

public import proofs.«01_k».proof.Proof.KB.Amax
public import proofs.«01_k».proof.Proof.KB.Wgrad

@[expose] public section

-- membership in a rectangle of production extents: the elaborator's structural look recurses once per coordinate
set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every execution terminates, nothing faulting, and every final state has
    every unscoped buffer at the last boundary's contents `W4` and every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: every execution terminates, nothing faulting, and every final state has the argument arrays as
    launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c)⟩, h.2⟩) (run_all m ρ)

end Cert.Proof.KB

end
-- ==== Proof.KI.AmaxSetup.lean ====
/- The amax call of KernelIdeal, entered at any buffer contents `V`: the block of dy at each point, the body's two branch
   conditions in closed form (first point, last point), where the two outputs are idle, and the staging and scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the elaborator's structural look recurses once per coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x1 .f32 := (Memref.whole cc0_stg1_0 : Memref sig .tc .smem S1x1 .f32).view
/-- One staging buffer of output window 2, through which its contents are stated (`View.read_writes_of_cover`: the
    choice does not matter). -/
abbrev VO0_2 : View sig .tc .smem S1x1 .f32 := (Memref.whole cc0_stg2_0 : Memref sig .tc .smem S1x1 .f32).view
/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S16x5120 .bf16 := Memref.whole cc0_scratch0
/-- The scratch `arg4` the kernel carries between points, as a view: what it holds is stated through it. -/
abbrev VS0_0 : View sig .tc .vmem S16x5120 .bf16 := scM0_0.view

/-- The scoped buffers beside the running maximum that no staging buffer of this call is: the other call's staging
    buffers, each whole at some contents. The call does not touch them. -/
def others (c : Dev nD) : sProp 𝕄 :=
  bigSepL [cc1_stg3_0, cc1_stg4_0, cc1_stg4_1, cc1_stg5_0, cc1_stg5_1, cc1_stg6_0, cc1_stg6_1, cc1_stg7_0, cc1_stg7_1, cc1_stg0_0, cc1_stg1_0, cc1_stg2_0]
    (fun b : Ref sig .tc => iprop(∃ f : Buf (Elt F) ((c : Thread nD τ).loc b), ((c : Thread nD τ).loc b) ↦{fullShare} f))

/-- The region's invariant before its first point: the running maximum's buffer at some contents, the other scoped
    buffers, the generator register at some state. -/
theorem PhiA0_eq (c : Dev nD) :
    (Pipeline.ΦA spec0 c : sProp 𝕄)
      = iprop(iprop((∃ d, owns (c : Thread nD τ) scM0_0 fullShare d) ∗ others (F := F) c) ∗ (∃ r, prngReg c r)) := by
  unfold Pipeline.ΦA; rw [scopedRest0_eq]; simp only [scM0_0, owns_whole]; unfold others; rfl

end Cert.Proof.KI

end
-- ==== Proof.KI.AmaxRunA.lean ====
/- The amax call of KernelIdeal: its body run whole at the first point, and what its stores leave. -/
module

public import proofs.«01_k».proof.Proof.KI.AmaxSetup

@[expose] public section

-- membership in a rectangle of production extents: the elaborator's structural look recurses once per coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) :
    Σ' (L1 : List (View.Piece (Elt F) S1x1 .f32)), Σ' (L2 : List (View.Piece (Elt F) S1x1 .f32)), { LS0 : List (View.Piece (Elt F) S16x5120 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨[], [], ?_, fun xi1 xi2 E K => ?run⟩
  case run =>
    simp only [cc0__amax_kernel_eq_skeleton]; unfold cc0__amax_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Proof.KI

end
-- ==== Proof.KI.AmaxRunB.lean ====
/- The amax call of KernelIdeal: its body run whole at a middle point, and what its stores leave. -/
module

public import proofs.«01_k».proof.Proof.KI.AmaxRunA

@[expose] public section

-- membership in a rectangle of production extents: the elaborator's structural look recurses once per coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 10: 10 of 12), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) :
    Σ' (L1 : List (View.Piece (Elt F) S1x1 .f32)), Σ' (L2 : List (View.Piece (Elt F) S1x1 .f32)), { LS0 : List (View.Piece (Elt F) S16x5120 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨[], [], ?_, fun xi1 xi2 E K => ?run⟩
  case run =>
    simp only [cc0__amax_kernel_eq_skeleton]; unfold cc0__amax_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Proof.KI

end
-- ==== Proof.KI.AmaxRunC.lean ====
/- The amax call of KernelIdeal: its body run whole at the last point, and what its stores leave. -/
module

public import proofs.«01_k».proof.Proof.KI.AmaxRunB

@[expose] public section

-- membership in a rectangle of production extents: the elaborator's structural look recurses once per coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken: points 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) :
    Σ' (L1 : List (View.Piece (Elt F) S1x1 .f32)), Σ' (L2 : List (View.Piece (Elt F) S1x1 .f32)), { LS0 : List (View.Piece (Elt F) S16x5120 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__amax_kernel i arg1 harg1 arg2 harg2 arg3 harg3 arg4 harg4) K } := by
  refine ⟨?_, ?_, ?_, fun E K => ?run⟩
  case run =>
    simp only [cc0__amax_kernel_eq_skeleton]; unfold cc0__amax_kernel_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.Proof.KI

end
-- ==== Proof.KI.Amax.lean ====
/- The amax call of KernelIdeal as a region: what its two outputs and the running maximum hold after each point, the
   proof data over that invariant, and the body obligation at every point. -/
module

public import proofs.«01_k».proof.Proof.KI.AmaxRunC

@[expose] public section

-- membership in a rectangle of production extents: the elaborator's structural look recurses once per coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) : Vec F S1x1 .f32 :=
  VO0_1.read (Elt F) (VO0_1.writes (Elt F) VO0_1.junk (kernelRun0_A c i arg1 harg1 arg2 harg2 arg3 harg3 arg4 harg4 hc0 hc1 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) : Vec F S1x1 .f32 :=
  VO0_2.read (Elt F) (VO0_2.writes (Elt F) VO0_2.junk (kernelRun0_A c i arg1 harg1 arg2 harg2 arg3 harg3 arg4 harg4 hc0 hc1 x0).2.1)

/-- Case A's pieces for scratch `arg4`, which the kernel carries between points, cover it: 2 pieces of `S16x5120` tiling it (Lib/Ring.lean `Piece.tiledL`). -/
theorem scover0_A_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) (y : S16x5120.Idx) :
    ∃ pc ∈ (kernelRun0_A c i arg1 harg1 arg2 harg2 arg3 harg3 arg4 harg4 hc0 hc1 x0).2.2.1, y ∈ pc.1.set :=
  View.cover_of_tiledL (kernelRun0_A c i arg1 harg1 arg2 harg2 arg3 harg3 arg4 harg4 hc0 hc1 x0).2.2.1 S16x5120.size (by sl_kernel_rfl) y

/-- What case A leaves in scratch `arg4`: its pieces read back over junk. -/
def sout0_A_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : cond0_0 i) (hc1 : ¬cond0_1 i)
    (x0 : Vec F S512x5120 .bf16) : Vec F S16x5120 .bf16 :=
  VS0_0.read (Elt F) (VS0_0.writes (Elt F) VS0_0.junk (kernelRun0_A c i arg1 harg1 arg2 harg2 arg3 harg3 arg4 harg4 hc0 hc1 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) : Vec F S1x1 .f32 :=
  VO0_1.read (Elt F) (VO0_1.writes (Elt F) VO0_1.junk (kernelRun0_B c i arg1 harg1 arg2 harg2 arg3 harg3 arg4 harg4 hc0 hc1 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) : Vec F S1x1 .f32 :=
  VO0_2.read (Elt F) (VO0_2.writes (Elt F) VO0_2.junk (kernelRun0_B c i arg1 harg1 arg2 harg2 arg3 harg3 arg4 harg4 hc0 hc1 x0 xs0).2.1)

/-- Case B's pieces for scratch `arg4`, which the kernel carries between points, cover it: 1 piece of `S16x5120` tiling it (Lib/Ring.lean `Piece.tiledL`). -/
theorem scover0_B_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) (y : S16x5120.Idx) :
    ∃ pc ∈ (kernelRun0_B c i arg1 harg1 arg2 harg2 arg3 harg3 arg4 harg4 hc0 hc1 x0 xs0).2.2.1, y ∈ pc.1.set :=
  View.cover_of_tiledL (kernelRun0_B c i arg1 harg1 arg2 harg2 arg3 harg3 arg4 harg4 hc0 hc1 x0 xs0).2.2.1 S16x5120.size (by sl_kernel_rfl) y

/-- What case B leaves in scratch `arg4`: its pieces read back over junk. -/
def sout0_B_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : ¬cond0_1 i)
    (x0 : Vec F S512x5120 .bf16) (xs0 : Vec F S16x5120 .bf16) : Vec F S16x5120 .bf16 :=
  VS0_0.read (Elt F) (VS0_0.writes (Elt F) VS0_0.junk (kernelRun0_B c i arg1 harg1 arg2 harg2 arg3 harg3 arg4 harg4 hc0 hc1 x0 xs0).2.2.1)

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) (y : S1x1.Idx) :
    ∃ pc ∈ (kernelRun0_C c i arg1 harg1 arg2 harg2 arg3 harg3 arg4 harg4 hc0 hc1 x0 xs0).1, y ∈ pc.1.set :=
  View.cover_of_tiledL (kernelRun0_C c i arg1 harg1 arg2 harg2 arg3 harg3 arg4 harg4 hc0 hc1 x0 xs0).1 S1x1.size (by sl_kernel_rfl) y

/-- What case C leaves in output 1's staging buffer: its pieces read back over junk. -/
def out0_C_1 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) : Vec F S1x1 .f32 :=
  VO0_1.read (Elt F) (VO0_1.writes (Elt F) VO0_1.junk (kernelRun0_C c i arg1 harg1 arg2 harg2 arg3 harg3 arg4 harg4 hc0 hc1 x0 xs0).1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) (y : S1x1.Idx) :
    ∃ pc ∈ (kernelRun0_C c i arg1 harg1 arg2 harg2 arg3 harg3 arg4 harg4 hc0 hc1 x0 xs0).2.1, y ∈ pc.1.set :=
  View.cover_of_tiledL (kernelRun0_C c i arg1 harg1 arg2 harg2 arg3 harg3 arg4 harg4 hc0 hc1 x0 xs0).2.1 S1x1.size (by sl_kernel_rfl) y

/-- What case C leaves in output 2's staging buffer: its pieces read back over junk. -/
def out0_C_2 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) : Vec F S1x1 .f32 :=
  VO0_2.read (Elt F) (VO0_2.writes (Elt F) VO0_2.junk (kernelRun0_C c i arg1 harg1 arg2 harg2 arg3 harg3 arg4 harg4 hc0 hc1 x0 xs0).2.1)

/-- Case C's pieces for scratch `arg4`, which the kernel carries between points, cover it: 1 piece of `S16x5120` tiling it (Lib/Ring.lean `Piece.tiledL`). -/
theorem scover0_C_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) (y : S16x5120.Idx) :
    ∃ pc ∈ (kernelRun0_C c i arg1 harg1 arg2 harg2 arg3 harg3 arg4 harg4 hc0 hc1 x0 xs0).2.2.1, y ∈ pc.1.set :=
  View.cover_of_tiledL (kernelRun0_C c i arg1 harg1 arg2 harg2 arg3 harg3 arg4 harg4 hc0 hc1 x0 xs0).2.2.1 S16x5120.size (by sl_kernel_rfl) y

/-- What case C leaves in scratch `arg4`: its pieces read back over junk. -/
def sout0_C_0 (c : Dev nD) (i : grid0.Coords) (arg1 : Memref sig .tc .vmem S512x5120 .bf16) (harg1 : arg1.IsWhole) (arg2 : Memref sig .tc .smem S1x1 .f32) (harg2 : arg2.IsWhole) (arg3 : Memref sig .tc .smem S1x1 .f32) (harg3 : arg3.IsWhole) (arg4 : Memref sig .tc .vmem S16x5120 .bf16) (harg4 : arg4.IsWhole) (hc0 : ¬cond0_0 i) (hc1 : cond0_1 i)
    (x0 : Vec F S512x5120 .bf16) (xs0 : Vec F S16x5120 .bf16) : Vec F S16x5120 .bf16 :=
  VS0_0.read (Elt F) (VS0_0.writes (Elt F) VS0_0.junk (kernelRun0_C c i arg1 harg1 arg2 harg2 arg3 harg3 arg4 harg4 hc0 hc1 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S16x5120 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 12 = 0 then
      if h1 : (n + 1) % 12 = 11 then
        False.elim (by have hN : n + 1 < 12 := lt_of_lt_of_eq hn (show cfg0.N = 12 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 12 = 11 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2)

/-- `outsAt0` at a point of case A: that case's contents. -/
theorem outsAt0_A (c : Dev nD) (t : Fin cfg0.N) (h0 : t.val % 12 = 0) (h1 : ¬t.val % 12 = 11) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 12 = 0) (h1 : ¬t.val % 12 = 11) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 12 = 0) (h1 : t.val % 12 = 11) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2) ∗ others (F := F) c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ others (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 12 := lt_of_lt_of_eq t.isLt (show cfg0.N = 12 from N_0)
  by_cases h0 : t.val % 12 = 0
  · by_cases h1 : t.val % 12 = 11
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t)).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _)
            iexact Hoth
          iexact Hg
        isplitl [Ho]; · iexact Ho
        isplitl [H0]; · iexact H0
        isplitl [H1]; · iexists _; iexact H1
        iexists _; iexact H2
      · exfalso; have hN : t.val < 12 := lt_of_lt_of_eq t.isLt (show cfg0.N = 12 from N_0); omega
  · by_cases h1 : t.val % 12 = 11
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      by_cases hz : t.val = 0
      · exfalso; have hN : t.val < 12 := lt_of_lt_of_eq t.isLt (show cfg0.N = 12 from N_0); omega
      · rw [PhiS_castSucc V c t, PhiS_pos V c _ _ hz]
        rw [outsAt0_C V c t h0 h1]
        unfold out0_C_1 out0_C_2 sout0_C_0; (try dsimp only)
        iintro ⟨⟨⟨HS0, Hoth⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) _).2.2.2 Set.univ _)
        isplitl [H0]; · iexact H0
        isplitl [H1]; · iexists _; iexact H1
        isplitl [H2]; · iexists _; iexact H2
        isplitl [HS0]; · iexact HS0
        iintro ⟨H0, ⟨%e1, H1⟩, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C_0 c _ _ _ _ _ _ _ _ _ _ _ _ _)
            iexact Hoth
          iexact Hg
        isplitl [Ho]; · iexact Ho
        isplitl [H0]; · iexact H0
        isplitl [H1]
        · unfold owns; iexists _; isplitr
          swap; · iexact H1
          ipureintro; exact View.read_writes_of_cover _ _ _ _ _ (cover0_C_1 c _ _ _ _ _ _ _ _ _ _ _ _ _)
        unfold owns; iexists _; isplitr
        swap; · iexact H2
        ipureintro; exact View.read_writes_of_cover _ _ _ _ _ (cover0_C_2 c _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 12 := lt_of_lt_of_eq t.isLt (show cfg0.N = 12 from N_0); omega
      · rw [PhiS_castSucc V c t, PhiS_pos V c _ _ hz]
        rw [outsAt0_B V c t h0 h1]
        unfold sout0_B_0; (try dsimp only)
        iintro ⟨⟨⟨HS0, Hoth⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) _).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B_0 c _ _ _ _ _ _ _ _ _ _ _ _ _)
            iexact Hoth
          iexact Hg
        isplitl [Ho]; · iexact Ho
        isplitl [H0]; · iexact H0
        isplitl [H1]; · iexists _; iexact H1
        iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out V c _ (by rw [Fin.val_last]; have : cfg0.N = 12 := N_0; omega)

end Cert.Proof.KI

end
-- ==== Proof.KI.Wgrad.lean ====
/- The wgrad call of KernelIdeal as a region, entered at any buffer contents `V`: each window's block at a point, the body
   run whole, what it leaves in the two outputs, the proof data and the body obligation. -/
module

public import proofs.«01_k».proof.Proof.KI.AmaxSetup

@[expose] public section

-- membership in a rectangle of production extents: the elaborator's structural look recurses once per coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, which the run instantiates
variable (V : (c : Dev nD) → (b : Ref sig .tc) → Buf (Elt F) ((c : Thread nD τ).loc b))

/-! # REGION 1 of @main: custom_call 1, `cc1__wgrad_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S1280x256 .f32 := (Memref.whole cc1_stg6_0 : Memref sig .tc .vmem S1280x256 .f32).view
/-- One staging buffer of output window 7, through which its contents are stated (`View.read_writes_of_cover`: the
    choice does not matter). -/
abbrev VO1_7 : View sig .tc .vmem S6144x256 .fp8e5m2 := (Memref.whole cc1_stg7_0 : Memref sig .tc .vmem S6144x256 .fp8e5m2).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .smem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6144x1280 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6144x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1280x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1280x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S6144x256 .fp8e5m2 := win1_7.stage (cfg1.slots t 7)
abbrev hs1_7 (t : Fin cfg1.N) : (ms1_7 t).IsWhole := hstage1_7 ((cfg1.slots t 7).cast nbuf1_7)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) :
    Σ' (L6 : List (View.Piece (Elt F) S1280x256 .f32)), { L7 : List (View.Piece (Elt F) S6144x256 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc1__wgrad_kernel i arg1 harg1 arg2 harg2 arg3 harg3 arg4 harg4 arg5 harg5 arg6 harg6 arg7 harg7 arg8 harg8) K } := by
  refine ⟨?_, ?_, fun E K => ?run⟩
  case run =>
    simp only [cc1__wgrad_kernel_eq_skeleton]; unfold cc1__wgrad_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-- The run's pieces for output 6 tile its block (1 store of `S1280x256`, checked by the kernel's evaluation: Lib/Ring.lean `Piece.tiledL`, linear in the pieces, through a loop's `@[irreducible]` trip theorem too), so they cover it. -/
theorem cover1_A_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) (y : S1280x256.Idx) :
    ∃ pc ∈ (kernelRun1_A c i arg1 harg1 arg2 harg2 arg3 harg3 arg4 harg4 arg5 harg5 arg6 harg6 arg7 harg7 arg8 harg8 x0 x1 x2 x3 x4 x5).1, y ∈ pc.1.set :=
  View.cover_of_tiledL (kernelRun1_A c i arg1 harg1 arg2 harg2 arg3 harg3 arg4 harg4 arg5 harg5 arg6 harg6 arg7 harg7 arg8 harg8 x0 x1 x2 x3 x4 x5).1 S1280x256.size (by sl_kernel_rfl) y

/-- What the run leaves in output 6's staging buffer: its pieces read back over junk. -/
def out1_A_6 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) : Vec F S1280x256 .f32 :=
  VO1_6.read (Elt F) (VO1_6.writes (Elt F) VO1_6.junk (kernelRun1_A c i arg1 harg1 arg2 harg2 arg3 harg3 arg4 harg4 arg5 harg5 arg6 harg6 arg7 harg7 arg8 harg8 x0 x1 x2 x3 x4 x5).1)

/-- The run's pieces for output 7 tile its block (1 store of `S6144x256`, checked by the kernel's evaluation: Lib/Ring.lean `Piece.tiledL`, linear in the pieces, through a loop's `@[irreducible]` trip theorem too), so they cover it. -/
theorem cover1_A_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) (y : S6144x256.Idx) :
    ∃ pc ∈ (kernelRun1_A c i arg1 harg1 arg2 harg2 arg3 harg3 arg4 harg4 arg5 harg5 arg6 harg6 arg7 harg7 arg8 harg8 x0 x1 x2 x3 x4 x5).2.1, y ∈ pc.1.set :=
  View.cover_of_tiledL (kernelRun1_A c i arg1 harg1 arg2 harg2 arg3 harg3 arg4 harg4 arg5 harg5 arg6 harg6 arg7 harg7 arg8 harg8 x0 x1 x2 x3 x4 x5).2.1 S6144x256.size (by sl_kernel_rfl) y

/-- What the run leaves in output 7's staging buffer: its pieces read back over junk. -/
def out1_A_7 (c : Dev nD) (i : grid1.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S6144x1280 .fp8e4m3) (harg4 : arg4.IsWhole) (arg5 : Memref sig .tc .vmem S6144x256 .bf16) (harg5 : arg5.IsWhole) (arg6 : Memref sig .tc .vmem S1280x256 .f32) (harg6 : arg6.IsWhole) (arg7 : Memref sig .tc .vmem S1280x256 .f32) (harg7 : arg7.IsWhole) (arg8 : Memref sig .tc .vmem S6144x256 .fp8e5m2) (harg8 : arg8.IsWhole)
    (x0 : Vec F S1x1 .f32) (x1 : Vec F S1x1 .f32) (x2 : Vec F S1x1 .f32) (x3 : Vec F S6144x1280 .fp8e4m3) (x4 : Vec F S6144x256 .bf16) (x5 : Vec F S1280x256 .f32) : Vec F S6144x256 .fp8e5m2 :=
  VO1_7.read (Elt F) (VO1_7.writes (Elt F) VO1_7.junk (kernelRun1_A c i arg1 harg1 arg2 harg2 arg3 harg3 arg4 harg4 arg5 harg5 arg6 harg6 arg7 harg7 arg8 harg8 x0 x1 x2 x3 x4 x5).2.1)

/-! ## What the outputs hold after each point -/

/-- What the outputs' staging buffers hold after the body at point `t` (as a tuple, in window order): the run's contents at
    the point's memrefs and input blocks. -/
def outsAt1 (c : Dev nD) (t : Fin cfg1.N) : Vec F S1280x256 .f32 × Vec F S6144x256 .fp8e5m2 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t).1
    | ⟨7, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t).1 := by dsimp only [dat1]
theorem after1_7 (c : Dev nD) (t : Fin cfg1.N) : (dat1 V c).after 7 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  unfold outsAt1
  unfold out1_A_6 out1_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c (grid1.coords t) _ _ _ _ _ _ _ _ _ _ _ _ _ _ _ _ (iblk1 V c 0 t) (iblk1 V c 1 t) (iblk1 V c 2 t) (iblk1 V c 3 t) (iblk1 V c 4 t) (iblk1 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_A_6 c _ _ _ _ _ _ _ _ _ _ _ _ _ _ _ _ _ _ _ _ _ _ _)
  unfold owns; iexists _; isplitr
  swap; · iexact H7
  ipureintro; exact View.read_writes_of_cover _ _ _ _ _ (cover1_A_7 c _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Proof.KI

end
-- ==== Proof.KI.Run.lean ====
/- The run of KernelIdeal: its two calls among the host reshapes, the buffer contents at every boundary, the two regions
   as segments, and what every final state holds. -/
module

public import proofs.«01_k».proof.Proof.KI.Amax
public import proofs.«01_k».proof.Proof.KI.Wgrad

@[expose] public section

-- membership in a rectangle of production extents: the elaborator's structural look recurses once per coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every execution terminates, nothing faulting, and every final state has
    every unscoped buffer at the last boundary's contents `W4` and every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: every execution terminates, nothing faulting, and every final state has the argument arrays as
    launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c)⟩, h.2⟩) (run_all m ρ)

end Cert.Proof.KI

end
-- ==== Proof.Val.Exponent.lean ====
/- The power of two of a positive real, found by a search over the exponent field of a 32-bit float, and the same
   power of two found by the floor of a logarithm. Nothing here is about a program. -/
module

public import Idealize.ShloMosaic.PureOps
public import Idealize.ShloMosaic.PureOps.Ideal
public import Idealize.ShloMosaic.PureOps.Ideal.Laws

@[expose] public section

noncomputable section

namespace Cert.Proof.Val

open Idealize.ShloMosaic

/-- The number that the exponent field `n` denotes, the fraction being zero. -/
def thr (n : BitVec 32) : EReal := Ideal.ofBits .f32 (n <<< (23 : BitVec 32))

/-- One step of the search: take `bit` into the field `n` if the number of `n + bit` is at most `p`. -/
def step (p : EReal) (bit n : BitVec 32) : BitVec 32 :=
  Scalar.select (Ideal.cmp .oge p (thr (n + bit))) (n + bit) n

/-- The search over the eight bits of the field, from the highest. -/
def search (p : EReal) : BitVec 32 :=
  step p 1#32 (step p 2#32 (step p 4#32 (step p 8#32 (step p 16#32 (step p 32#32 (step p 64#32 (step p 128#32 0#32)))))))

/-- The exponent that the search gives: the field less 126, and zero for the field zero. -/
def expo (p : EReal) : BitVec 32 :=
  Scalar.select (IntOp.cmpi .sgt (search p) 0#32) (search p - 126#32) 0#32

/-- Sign, exponent and fraction of the pattern whose exponent field is `m`. -/
theorem fields (m : Fin 256) : ((BitVec.ofNat 32 m.val <<< (23 : BitVec 32)).extractLsb' 31 1 == 1#1) = false
    ∧ ((BitVec.ofNat 32 m.val <<< (23 : BitVec 32)).extractLsb' 23 8).toNat = m.val
    ∧ ((BitVec.ofNat 32 m.val <<< (23 : BitVec 32)).extractLsb' 0 23).toNat = 0 := by
  have h := m.isLt
  have e : (BitVec.ofNat 32 m.val <<< (23 : BitVec 32)).toNat = m.val * 8388608 := by
    rw [BitVec.shiftLeft_eq', BitVec.toNat_shiftLeft, BitVec.toNat_ofNat, show (23 : BitVec 32).toNat = 23 from rfl]
    norm_num [Nat.shiftLeft_eq]
    omega
  refine ⟨?_, ?_, ?_⟩
  · rw [beq_eq_false_iff_ne]
    intro h1
    have := congrArg BitVec.toNat h1
    rw [BitVec.extractLsb'_toNat, e, Nat.shiftRight_eq_div_pow] at this
    norm_num at this
    omega
  · rw [BitVec.extractLsb'_toNat, e, Nat.shiftRight_eq_div_pow]
    norm_num
  · rw [BitVec.extractLsb'_toNat, e, Nat.shiftRight_eq_div_pow]
    norm_num

/-- A field from 1 to 254 denotes the power of two of its value less 127. -/
theorem thr_pow (m : ℕ) (h1 : 1 ≤ m) (h2 : m ≤ 254) :
    thr (BitVec.ofNat 32 m) = (((2 : ℝ) ^ ((m : ℤ) - 127) : ℝ) : EReal) := by
  obtain ⟨f1, f2, f3⟩ := fields ⟨m, by omega⟩
  simp only at f1 f2 f3
  unfold thr Ideal.ofBits Ideal.ieee
  simp only [Nat.reduceAdd, f1, f2, f3]
  rw [if_neg (by norm_num; omega), if_neg (by omega), EReal.coe_eq_coe_iff]
  norm_num
  rw [show (8388608 : ℝ) = (2 : ℝ) ^ (23 : ℤ) by norm_num, ← zpow_add₀ (by norm_num : (2 : ℝ) ≠ 0)]
  exact congrArg (fun z : ℤ => (2 : ℝ) ^ z) (by ring)

/-- The field zero denotes zero. -/
theorem thr_zero : thr (BitVec.ofNat 32 0) = 0 := by
  obtain ⟨f1, f2, f3⟩ := fields ⟨0, by omega⟩
  simp only at f1 f2 f3
  unfold thr Ideal.ofBits Ideal.ieee
  simp only [Nat.reduceAdd, f1, f2, f3]
  norm_num

/-- The field 255 denotes the infinity. -/
theorem thr_top : thr (BitVec.ofNat 32 255) = ⊤ := by
  obtain ⟨f1, f2, f3⟩ := fields ⟨255, by omega⟩
  simp only at f1 f2 f3
  unfold thr Ideal.ofBits Ideal.ieee
  simp only [Nat.reduceAdd, f1, f2, f3]
  norm_num

/-- `k` is the field of `p`: the fields whose number is at most `p` are those up to `k`. -/
def IsField (p : EReal) (k : ℕ) : Prop := ∀ m : ℕ, m ≤ 255 → (thr (BitVec.ofNat 32 m) ≤ p ↔ m ≤ k)

/-- The same step on natural numbers, for a number whose field is `k`. -/
def stepN (k bit n : ℕ) : ℕ := if n + bit ≤ k then n + bit else n

theorem step_eq {p : EReal} {k : ℕ} (hk : IsField p k) (bit n : ℕ) (h : n + bit ≤ 255) :
    step p (BitVec.ofNat 32 bit) (BitVec.ofNat 32 n) = BitVec.ofNat 32 (stepN k bit n) := by
  have e : BitVec.ofNat 32 n + BitVec.ofNat 32 bit = BitVec.ofNat 32 (n + bit) := (BitVec.ofNat_add n bit).symm
  unfold step stepN Ideal.cmp
  rw [e]
  have := hk (n + bit) h
  by_cases hc : n + bit ≤ k
  · simp [Scalar.select, this, hc]
  · simp [Scalar.select, this, hc]

/-- The search on natural numbers. -/
def searchN (k : ℕ) : ℕ :=
  stepN k 1 (stepN k 2 (stepN k 4 (stepN k 8 (stepN k 16 (stepN k 32 (stepN k 64 (stepN k 128 0)))))))

theorem searchN_eq : ∀ k : Fin 256, searchN k.val = k.val := by decide +kernel

theorem stepN_le (k bit n : ℕ) : stepN k bit n ≤ n + bit := by unfold stepN; split <;> omega

/-- The search finds the field. -/
theorem search_eq {p : EReal} {k : ℕ} (hk : IsField p k) (h : k ≤ 255) : search p = BitVec.ofNat 32 k := by
  have hN : searchN k = k := searchN_eq ⟨k, by omega⟩
  refine Eq.trans ?_ (congrArg (BitVec.ofNat 32) hN)
  unfold search searchN
  have l1 := stepN_le k 128 0
  have l2 := stepN_le k 64 (stepN k 128 0)
  have l3 := stepN_le k 32 (stepN k 64 (stepN k 128 0))
  have l4 := stepN_le k 16 (stepN k 32 (stepN k 64 (stepN k 128 0)))
  have l5 := stepN_le k 8 (stepN k 16 (stepN k 32 (stepN k 64 (stepN k 128 0))))
  have l6 := stepN_le k 4 (stepN k 8 (stepN k 16 (stepN k 32 (stepN k 64 (stepN k 128 0)))))
  have l7 := stepN_le k 2 (stepN k 4 (stepN k 8 (stepN k 16 (stepN k 32 (stepN k 64 (stepN k 128 0))))))
  rw [step_eq hk 128 0 (by omega), step_eq hk 64 _ (by omega), step_eq hk 32 _ (by omega), step_eq hk 16 _ (by omega),
    step_eq hk 8 _ (by omega), step_eq hk 4 _ (by omega), step_eq hk 2 _ (by omega), step_eq hk 1 _ (by omega)]

/-- The field of zero is zero. -/
theorem isField_zero : IsField 0 0 := by
  intro m hm
  rcases Nat.eq_zero_or_pos m with rfl | h
  · simp [thr_zero]
  · rcases Nat.lt_or_ge m 255 with h' | h'
    · rw [thr_pow m h (by omega)]
      have : (0 : ℝ) < (2 : ℝ) ^ ((m : ℤ) - 127) := by positivity
      constructor
      · intro h0; exact absurd (EReal.coe_le_coe_iff.mp (by simpa using h0)) (not_le.mpr this)
      · intro h0; omega
    · obtain rfl : m = 255 := by omega
      rw [thr_top]; simp

/-- The field of a real from `2 ^ (k - 127)` up to below `2 ^ (k - 126)` is `k`. -/
theorem isField_pow (r : ℝ) (k : ℕ) (h1 : 1 ≤ k) (h2 : k ≤ 254) (lo : (2 : ℝ) ^ ((k : ℤ) - 127) ≤ r)
    (hi : r < (2 : ℝ) ^ ((k : ℤ) - 126)) : IsField (r : EReal) k := by
  intro m hm
  rcases Nat.eq_zero_or_pos m with rfl | h
  · have : (0 : ℝ) < (2 : ℝ) ^ ((k : ℤ) - 127) := by positivity
    simp only [thr_zero, Nat.zero_le, iff_true]
    exact_mod_cast (this.trans_le lo).le
  · rcases Nat.lt_or_ge m 255 with h' | h'
    · rw [thr_pow m h (by omega), EReal.coe_le_coe_iff]
      constructor
      · intro hr
        have := hr.trans_lt hi
        rw [zpow_lt_zpow_iff_right₀ (by norm_num)] at this
        omega
      · intro hk
        refine le_trans ?_ lo
        exact zpow_le_zpow_right₀ (by norm_num) (by omega)
    · obtain rfl : m = 255 := by omega
      rw [thr_top]
      simp only [top_le_iff, EReal.coe_ne_top, false_iff]
      omega

/-- The exponent of a number, by a logarithm: the floor of its logarithm to base two, plus one. -/
def logExpo (p : EReal) : EReal :=
  Ideal.liftRound Int.floor (Ideal.div (Ideal.log p) (Ideal.log (Ideal.ofBits .f32 0x40000000#32))) + Ideal.ofBits .f32 0x3F800000#32

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- A real from `2 ^ n` up to below `2 ^ (n + 1)` has the exponent `n + 1`. -/
theorem logExpo_eq (r : ℝ) (n : ℤ) (lo : (2 : ℝ) ^ n ≤ r) (hi : r < (2 : ℝ) ^ (n + 1)) :
    logExpo (r : EReal) = (((n + 1 : ℤ) : ℝ) : EReal) := by
  have hr : 0 < r := lt_of_lt_of_le (by positivity) lo
  have hl2 : Real.log 2 ≠ 0 := (Real.log_pos (by norm_num)).ne'
  unfold logExpo
  rw [ofBits_two, ofBits_one, Ideal.log_coe, Ideal.log_coe, if_neg (by linarith), if_neg (by norm_num), Ideal.div_coe hl2,
    ← EReal.coe_mul, mul_one_div, Ideal.liftRound_coe]
  have l0 : 0 < Real.log 2 := Real.log_pos (by norm_num)
  have : ⌊Real.log r / Real.log 2⌋ = n := by
    rw [Int.floor_eq_iff]
    constructor
    · rw [le_div_iff₀ l0, ← Real.log_zpow]
      exact Real.log_le_log (by positivity) lo
    · rw [div_lt_iff₀ l0]
      have := Real.log_lt_log hr hi
      rw [Real.log_zpow] at this
      push_cast at this
      exact this
  rw [this, ← EReal.coe_add]
  push_cast
  rfl

theorem exp2_int (n : ℤ) : Ideal.exp2 (((n : ℤ) : ℝ) : EReal) = (((2 : ℝ) ^ n : ℝ) : EReal) := by
  rw [Ideal.exp2_coe, EReal.coe_eq_coe_iff]
  exact Real.rpow_intCast 2 n

/-- THE SCALE AND ITS INVERSE, searched, are the powers of two of the exponent by a logarithm: for `p` zero, or from
    `2 ^ (-126)` up to below `2 ^ 126`; `e` is the exponent, zero for `p` zero. -/
theorem scales (p : EReal)
    (hp : p = 0 ∨ ((((2 : ℝ) ^ (-126 : ℤ) : ℝ) : EReal) ≤ p ∧ p < (((2 : ℝ) ^ (126 : ℤ) : ℝ) : EReal))) (e : EReal)
    (he : e = if p = 0 then 0 else logExpo p) :
    thr (127#32 + expo p) = Ideal.exp2 e ∧ thr (127#32 - expo p) = Ideal.exp2 (0 - e) := by
  rcases hp with rfl | ⟨lo, hi⟩
  · rw [if_pos rfl] at he
    subst he
    have hs := search_eq isField_zero (by omega)
    unfold expo
    rw [hs]
    have t := thr_pow 127 (by omega) (by omega)
    have x := exp2_int 0
    have z : ((((0 : ℤ) : ℝ)) : EReal) = 0 := by simp
    rw [z] at x
    refine ⟨?_, ?_⟩
    · show thr (BitVec.ofNat 32 127) = _
      rw [t, x]; norm_num
    · show thr (BitVec.ofNat 32 127) = _
      rw [t, sub_zero, x]; norm_num
  · have hpos : (0 : EReal) < p := lt_of_lt_of_le (by exact_mod_cast (by positivity : (0 : ℝ) < (2 : ℝ) ^ (-126 : ℤ))) lo
    rw [if_neg hpos.ne'] at he
    induction p with
    | bot => simp at hpos
    | top => simp at hi
    | coe r =>
      rw [EReal.coe_le_coe_iff] at lo
      rw [EReal.coe_lt_coe_iff] at hi
      have hr : 0 < r := by exact_mod_cast hpos
      obtain ⟨n, hn1, hn2⟩ := exists_mem_Ico_zpow hr (by norm_num : (1 : ℝ) < 2)
      have b1 : (-126 : ℤ) < n + 1 := by
        have := lo.trans_lt hn2
        rwa [zpow_lt_zpow_iff_right₀ (by norm_num)] at this
      have b2 : n < 126 := by
        have := hn1.trans_lt hi
        rwa [zpow_lt_zpow_iff_right₀ (by norm_num)] at this
      obtain ⟨k, hk⟩ : ∃ k : ℕ, (k : ℤ) = n + 127 := ⟨(n + 127).toNat, by omega⟩
      have hkn : n = (k : ℤ) - 127 := by omega
      rw [logExpo_eq r n hn1 hn2] at he
      have hf : IsField (r : EReal) k := isField_pow r k (by omega) (by omega) (by rw [← hkn]; exact hn1)
        (by rw [show (k : ℤ) - 126 = n + 1 by omega]; exact hn2)
      have hs := search_eq hf (by omega)
      have hexp : expo (r : EReal) = BitVec.ofNat 32 k - 126#32 := by
        unfold expo
        rw [hs]
        have : IntOp.cmpi .sgt (BitVec.ofNat 32 k) 0#32 = 1#1 :=
          (by decide +kernel : ∀ k : Fin 256, 1 ≤ k.val → IntOp.cmpi .sgt (BitVec.ofNat 32 k.val) 0#32 = 1#1) ⟨k, by omega⟩ (by show 1 ≤ k; omega)
        rw [this]; rfl
      have a1 : (127#32 : BitVec 32) + (BitVec.ofNat 32 k - 126#32) = BitVec.ofNat 32 (k + 1) := by
        apply BitVec.eq_of_toNat_eq; simp; omega
      have a2 : (127#32 : BitVec 32) - (BitVec.ofNat 32 k - 126#32) = BitVec.ofNat 32 (253 - k) := by
        apply BitVec.eq_of_toNat_eq; simp; omega
      rw [hexp, a1, a2, thr_pow (k + 1) (by omega) (by omega), thr_pow (253 - k) (by omega) (by omega), he]
      refine ⟨?_, ?_⟩
      · rw [exp2_int]; exact congrArg (fun z : ℤ => (((2 : ℝ) ^ z : ℝ) : EReal)) (by push_cast; omega)
      · rw [show (0 : EReal) - (((n + 1 : ℤ) : ℝ) : EReal) = (((-(n + 1) : ℤ) : ℝ) : EReal) by
          rw [zero_sub, ← EReal.coe_neg]; push_cast; rfl, exp2_int]
        exact congrArg (fun z : ℤ => (((2 : ℝ) ^ z : ℝ) : EReal)) (by omega)

end Cert.Proof.Val

end
-- ==== Proof.Val.Greatest.lean ====
/- The greatest magnitude of an array, and how it is recognised. -/
module

public import Idealize.ShloMosaic.PureOps
public import Idealize.ShloMosaic.PureOps.Ideal
public import Idealize.ShloMosaic.PureOps.Ideal.Laws

@[expose] public section

set_option maxRecDepth 16384

noncomputable section

namespace Cert.Proof.Val

open Idealize.ShloMosaic

/-- The magnitude of a number. -/
def mag (y : EReal) : EReal := max y (-y)

/-- A magnitude is not negative. -/
theorem mag_nonneg (y : EReal) : 0 ≤ mag y := by
  rcases le_total 0 y with h | h
  · exact le_max_of_le_left h
  · exact le_max_of_le_right (by rwa [← neg_zero, EReal.neg_le_neg_iff])

/-- The greatest magnitude of the numbers of an array of tokens by columns. -/
def amax (Y : Fin 6144 → Fin 5120 → EReal) : EReal :=
  Finset.fold max ⊥ (fun x : Fin 6144 × Fin 5120 => mag (Y x.1 x.2)) Finset.univ

/-- It is at most `b` when every magnitude is. -/
theorem amax_le (Y : Fin 6144 → Fin 5120 → EReal) (b : EReal) : amax Y ≤ b ↔ ∀ r l, mag (Y r l) ≤ b := by
  unfold amax
  rw [Finset.fold_max_le]
  simp only [bot_le, Finset.mem_univ, forall_const, true_and, Prod.forall]

/-- A number with the same upper bounds is the greatest magnitude. -/
theorem eq_amax (Y : Fin 6144 → Fin 5120 → EReal) (a : EReal) (h : ∀ b, a ≤ b ↔ ∀ r l, mag (Y r l) ≤ b) : a = amax Y :=
  le_antisymm ((h _).mpr ((amax_le Y _).mp le_rfl)) ((amax_le Y _).mpr ((h _).mp le_rfl))

/-- It is not negative. -/
theorem amax_nonneg (Y : Fin 6144 → Fin 5120 → EReal) : 0 ≤ amax Y :=
  (mag_nonneg (Y 0 0)).trans ((amax_le Y _).mp le_rfl 0 0)

/-- The factor that takes the greatest magnitude to the format's greatest number: about 1/57344. -/
def factor : EReal := Ideal.ofBits .f32 932333861#32

/-- The number whose power of two is the scale. -/
def prod (Y : Fin 6144 → Fin 5120 → EReal) : EReal := amax Y * factor

end Cert.Proof.Val
-- ==== Proof.Val.AmaxPay.lean ====
/- What the bodies of the first call compute, read at an index. -/
module

public import proofs.«01_k».proof.Proof.Gen.KernelIdeal.Skeleton
public import proofs.«01_k».proof.Proof.Val.Exponent
public import proofs.«01_k».proof.Proof.Val.Greatest
public import Idealize.ShloMosaic.Lib.Pipeline.ValueKit
public import Idealize.ShloMosaic.Lib.Pointwise

@[expose] public section

set_option maxRecDepth 16384

noncomputable section

namespace Cert.Proof.Val

open Idealize.ShloMosaic Cert.KernelIdeal Cert.KernelIdeal.Gen

/-- The greatest number of a list, not below -∞. -/
theorem pay3_apply (A : FVec Ideal S16x5120 .bf16) (j : S8x128.Idx) :
    k0_pay3 (F := Ideal) A j
      = Finset.fold max (Ideal.ofBits .f32 4286578688#32) (fun x : Fin 16 × Fin 5120 => A (ix2 x.1 x.2)) Finset.univ
        * Ideal.ofBits .f32 932333861#32 := by
  pointwise [k0_pay3]

/-- The vector unit's shift by 23 is the shift by 23. -/
theorem shl23 (n : BitVec 32) : IntOp.shli .vector n 23#32 = n <<< (23 : BitVec 32) := if_pos (by decide)

/-- One step of the search on a vector. -/
def vstep (V : FVec Ideal S8x128 .f32) (bit : BitVec 32) (N : IVec S8x128 32) : IVec S8x128 32 :=
  select (cmpf .oge V (bitcastToFloat .f32 (shli (addi N (broadcast S8x128 bit)) (broadcast S8x128 23#32))))
    (addi N (broadcast S8x128 bit)) N

/-- At an index it is the step of the search on the number there. -/
theorem vstep_apply (V : FVec Ideal S8x128 .f32) (bit : BitVec 32) (N : IVec S8x128 32) (j : S8x128.Idx) :
    vstep V bit N j = step (V j) bit (N j) := by
  unfold step thr
  rw [← shl23]
  rfl

/-- The first five steps of the search. -/
theorem pay4_eq (A : FVec Ideal S16x5120 .bf16) : k0_pay4 (F := Ideal) A
    = vstep (k0_pay3 A) 8#32 (vstep (k0_pay3 A) 16#32 (vstep (k0_pay3 A) 32#32 (vstep (k0_pay3 A) 64#32
        (vstep (k0_pay3 A) 128#32 (broadcast S8x128 0#32))))) := rfl

/-- The last three steps, and the exponent from the field found. -/
theorem pay5_eq (V : FVec Ideal S8x128 .f32) (N : IVec S8x128 32) : k0_pay5 (F := Ideal) V N
    = select (cmpi .sgt (vstep V 1#32 (vstep V 2#32 (vstep V 4#32 N))) (broadcast S8x128 0#32))
        (subi (vstep V 1#32 (vstep V 2#32 (vstep V 4#32 N))) (broadcast S8x128 126#32)) (broadcast S8x128 0#32) := rfl

/-- The exponent that the body finds is the search's. -/
theorem pay5_apply (A : FVec Ideal S16x5120 .bf16) (j : S8x128.Idx) :
    k0_pay5 (F := Ideal) (k0_pay3 A) (k0_pay4 (F := Ideal) A) j = expo (k0_pay3 (F := Ideal) A j) := by
  rw [pay5_eq, pay4_eq]
  have h : ∀ N : IVec S8x128 32, select (cmpi .sgt N (broadcast S8x128 0#32)) (subi N (broadcast S8x128 126#32))
      (broadcast S8x128 0#32) j = Scalar.select (IntOp.cmpi .sgt (N j) 0#32) (N j - 126#32) 0#32 := fun _ => rfl
  rw [h]
  simp only [vstep_apply]
  rfl

/-- The scale that the last body stores: the number of the field 127 plus the exponent. -/
theorem pay6_eq (A : FVec Ideal S16x5120 .bf16) :
    k0_pay6 (F := Ideal) (k0_pay3 A) (k0_pay4 (F := Ideal) A) = thr (127#32 + expo (k0_pay3 (F := Ideal) A (ix2 0 0))) := by
  rw [← pay5_apply]
  unfold thr
  rw [← shl23]
  generalize k0_pay4 (F := Ideal) A = N
  generalize k0_pay3 (F := Ideal) A = V
  unfold k0_pay6
  generalize k0_pay5 V N = E
  pointwise []
  rfl

/-- The inverse that the last body stores: the number of the field 127 less the exponent. -/
theorem pay7_eq (A : FVec Ideal S16x5120 .bf16) :
    k0_pay7 (F := Ideal) (k0_pay3 A) (k0_pay4 (F := Ideal) A) = thr (127#32 - expo (k0_pay3 (F := Ideal) A (ix2 0 0))) := by
  rw [← pay5_apply]
  unfold thr
  rw [← shl23]
  generalize k0_pay4 (F := Ideal) A = N
  generalize k0_pay3 (F := Ideal) A = V
  unfold k0_pay7
  generalize k0_pay5 V N = E
  pointwise []
  rfl

/-- The first body's scratch: zero everywhere. -/
theorem pay1_apply (j : S16x5120.Idx) : k0_pay1 (F := Ideal) j = 0 := by
  pointwise [k0_pay1]

/-- The scratch after a body: the greatest of what it was and of the magnitudes of the rows that fold onto it. -/
theorem pay2_le (X : FVec Ideal S512x5120 .bf16) (A : FVec Ideal S16x5120 .bf16) (a : Fin 16) (l : Fin 5120) (b : EReal) :
    k0_pay2 (F := Ideal) X A (ix2 a l) ≤ b ↔ A (ix2 a l) ≤ b ∧ ∀ x : Fin 32,
      mag (X (ix2 ⟨x.val * 16 + a.val, by omega⟩ l)) ≤ b := by
  have h : k0_pay2 (F := Ideal) X A (ix2 a l) = max (A (ix2 a l)) (Finset.fold max (Ideal.ofBits .bf16 65408#16)
      (fun x : Fin 32 => FloatOps.absf (F := Ideal) (φ := .bf16) (X (ix2 ⟨x.val * 16 + a.val, by omega⟩ l)))
      Finset.univ) := by
    pointwise [k0_pay2]
  rw [h, max_le_iff, Finset.fold_max_le]
  have hb : Ideal.ofBits .bf16 65408#16 ≤ b := by
    rw [show Ideal.ofBits .bf16 65408#16 = ⊥ by simp [Ideal.ofBits, Ideal.ieee]]
    exact bot_le
  constructor
  · exact fun h => ⟨h.1, fun x => h.2.2 x (Finset.mem_univ x)⟩
  · exact fun h => ⟨h.1, hb, fun x _ => h.2 x⟩

end Cert.Proof.Val
-- ==== Proof.Val.Amax.lean ====
/- What the first call leaves: the scratch after each point as the greatest magnitude of the rows seen so far, and the
   scale and its inverse as functions of the greatest magnitude of all rows. -/
module

public import proofs.«01_k».proof.Proof.KI.Amax
public import proofs.«01_k».proof.Proof.Val.AmaxPay
public import proofs.«01_k».proof.Proof.Val.Greatest
public import Idealize.ShloMosaic.Lib.Pipeline.ReadBack

@[expose] public section

set_option maxRecDepth 16384

noncomputable section

namespace Cert.Proof.Val

open Idealize.ShloMosaic Idealize.ShloMosaic.TcCoe Cert.KernelIdeal Cert.KernelIdeal.Gen Cert.Proof.KI
open Idealize.ShloMosaic.Pipeline (Dat)

variable (V : (c : Dev nD) → (b : Ref sig .tc) → Buf (Elt Ideal) ((c : Thread nD τ).loc b))

/-- Where the blocks of the first call lie: rows by the point; the two numbers at the only block. -/
theorem idx0 : ∀ t : Fin cfg0.N, win0_0.index t = ![t.val, 0] ∧ win0_1.index t = ![0, 0] ∧ win0_2.index t = ![0, 0] :=
  (by decide +kernel : ∀ t : Fin grid0.N, _)

/-- The first point's scratch. -/
theorem scr_A (c : Dev nD) (t : Fin cfg0.N) (h0 : t.val % 12 = 0) (h1 : ¬t.val % 12 = 11) :
    (outsAt0 V c t.val t.isLt).2.2 = k0_pay2 (F := Ideal) (iblk0 V c 0 t) (k0_pay1 (F := Ideal)) := by
  rw [outsAt0_A V c t h0 h1]
  frame_out

/-- A middle point's scratch. -/
theorem scr_B (c : Dev nD) (t : Fin cfg0.N) (h0 : ¬t.val % 12 = 0) (h1 : ¬t.val % 12 = 11) :
    (outsAt0 V c t.val t.isLt).2.2 = k0_pay2 (F := Ideal) (iblk0 V c 0 t)
      (outsAt0 V c (t.val - 1) (Nat.lt_of_le_of_lt (Nat.sub_le _ _) t.isLt)).2.2 := by
  rw [outsAt0_B V c t h0 h1]
  frame_out
  simp only [read_unread_whole]

/-- The last point's scratch. -/
theorem scr_C (c : Dev nD) (t : Fin cfg0.N) (h0 : ¬t.val % 12 = 0) (h1 : t.val % 12 = 11) :
    (outsAt0 V c t.val t.isLt).2.2 = k0_pay2 (F := Ideal) (iblk0 V c 0 t)
      (outsAt0 V c (t.val - 1) (Nat.lt_of_le_of_lt (Nat.sub_le _ _) t.isLt)).2.2 := by
  rw [outsAt0_C V c t h0 h1]
  frame_out
  simp only [read_unread_whole]

/-- The last point's scale, over the last point's scratch. -/
theorem scale_C (c : Dev nD) (t : Fin cfg0.N) (h0 : ¬t.val % 12 = 0) (h1 : t.val % 12 = 11) :
    (outsAt0 V c t.val t.isLt).1 = fun _ => k0_pay6 (F := Ideal) (k0_pay3 (outsAt0 V c t.val t.isLt).2.2)
      (k0_pay4 (F := Ideal) (outsAt0 V c t.val t.isLt).2.2) := by
  rw [scr_C V c t h0 h1, outsAt0_C V c t h0 h1]
  frame_out
  simp only [read_unread_whole]
  rfl

/-- The last point's inverse, over the last point's scratch. -/
theorem inv_C (c : Dev nD) (t : Fin cfg0.N) (h0 : ¬t.val % 12 = 0) (h1 : t.val % 12 = 11) :
    (outsAt0 V c t.val t.isLt).2.1 = fun _ => k0_pay7 (F := Ideal) (k0_pay3 (outsAt0 V c t.val t.isLt).2.2)
      (k0_pay4 (F := Ideal) (outsAt0 V c t.val t.isLt).2.2) := by
  rw [scr_C V c t h0 h1, outsAt0_C V c t h0 h1]
  frame_out
  simp only [read_unread_whole]
  rfl

/-- The scratch after point `n` bounds the magnitudes of the rows of the blocks up to `n` that fold onto its element. -/
theorem scr_le (c : Dev nD) (a : Fin 16) (l : Fin 5120) (b : EReal) : ∀ (n : ℕ) (hn : n < cfg0.N),
    (outsAt0 V c n hn).2.2 (ix2 a l) ≤ b ↔ ∀ s : Fin cfg0.N, s.val ≤ n → ∀ x : Fin 32,
      mag ((iblk0 V c 0 s : FVec Ideal S512x5120 .bf16)
        (ix2 ⟨x.val * 16 + a.val, by omega⟩ l)) ≤ b := by
  intro n
  induction n with
  | zero =>
    intro hn
    rw [scr_A V c ⟨0, hn⟩ rfl (by dsimp only; omega), pay2_le, pay1_apply]
    constructor
    · intro h s hs x
      obtain rfl : s = ⟨0, hn⟩ := Fin.ext (by simpa using hs)
      exact h.2 x
    · intro h
      exact ⟨(mag_nonneg _).trans (h ⟨0, hn⟩ le_rfl 0), fun x => h ⟨0, hn⟩ le_rfl x⟩
  | succ n ih =>
    intro hn
    have hN : n + 1 < 12 := lt_of_lt_of_eq hn (show cfg0.N = 12 from N_0)
    have e : (outsAt0 V c (n + 1) hn).2.2 = k0_pay2 (F := Ideal) (iblk0 V c 0 ⟨n + 1, hn⟩)
        (outsAt0 V c n (Nat.lt_of_succ_lt hn)).2.2 := by
      by_cases h1 : (n + 1) % 12 = 11
      · exact scr_C V c ⟨n + 1, hn⟩ (by dsimp only; omega) h1
      · exact scr_B V c ⟨n + 1, hn⟩ (by dsimp only; omega) h1
    rw [e, pay2_le, ih]
    constructor
    · intro h s hs x
      rcases Nat.lt_or_ge s.val (n + 1) with h' | h'
      · exact h.1 s (by omega) x
      · obtain rfl : s = ⟨n + 1, hn⟩ := Fin.ext (by dsimp only; omega)
        exact h.2 x
    · intro h
      exact ⟨fun s hs x => h s (by omega) x, fun x => h ⟨n + 1, hn⟩ le_rfl x⟩

/-- The rows that the first call stages, as an array of tokens by columns. -/
def rows (c : Dev nD) : Fin 6144 → Fin 5120 → EReal := fun r l => (V c main_v1 : FVec Ideal S6144x5120 .bf16) (ix2 r l)

/-- Point `s` stages the 512 rows from `512 s` on. -/
theorem iblk0_apply (c : Dev nD) (s : Fin cfg0.N) (r : Fin 512) (l : Fin 5120) :
    (iblk0 V c 0 s : FVec Ideal S512x5120 .bf16) (ix2 r l)
      = rows V c ⟨s.val * 512 + r.val, by have := r.isLt; have := lt_of_lt_of_eq s.isLt (show cfg0.N = 12 from N_0); omega⟩ l := by
  unfold rows
  blk_ext [iblk0, idx0 s]

/-- The greatest element of the last scratch is the greatest magnitude of all rows. -/
theorem scr_last (c : Dev nD) (hn : 11 < cfg0.N) :
    Finset.fold max (Ideal.ofBits .f32 4286578688#32)
      (fun x : Fin 16 × Fin 5120 => (outsAt0 V c 11 hn).2.2 (ix2 x.1 x.2)) Finset.univ = amax (rows V c) := by
  refine eq_amax _ _ fun b => ?_
  rw [Finset.fold_max_le, show Ideal.ofBits .f32 4286578688#32 = ⊥ by simp [Ideal.ofBits, Ideal.ieee]]
  constructor
  · intro h r l
    have hr := r.isLt
    have h' := (scr_le V c ⟨r.val % 16, by omega⟩ l b 11 hn).mp (h.2 (⟨r.val % 16, by omega⟩, l) (Finset.mem_univ _))
      ⟨r.val / 512, by rw [show cfg0.N = 12 from N_0]; omega⟩ (by dsimp only; omega) ⟨r.val / 16 % 32, by omega⟩
    rw [iblk0_apply] at h'
    refine le_of_eq_of_le ?_ h'
    congr 2
    apply Fin.ext
    simp
    omega
  · intro h
    refine ⟨bot_le, fun x _ => (scr_le V c x.1 x.2 b 11 hn).mpr fun s _ y => ?_⟩
    rw [iblk0_apply]
    exact h _ _

/-- The product that the last body forms is that of the greatest magnitude and the factor. -/
theorem prod_last (c : Dev nD) (t : Fin cfg0.N) (ht : t.val = 11) :
    k0_pay3 (F := Ideal) (outsAt0 V c t.val t.isLt).2.2 (ix2 0 0) = prod (rows V c) := by
  obtain ⟨n, hn⟩ := t
  dsimp only at ht ⊢
  subst ht
  rw [pay3_apply, scr_last]
  rfl

/-- What the last body leaves in the first array. -/
theorem scale_last (c : Dev nD) (t : Fin cfg0.N) (ht : t.val = 11) (j : S1x1.Idx) :
    (outsAt0 V c t.val t.isLt).1 j = thr (127#32 + expo (prod (rows V c))) := by
  rw [scale_C V c t (by omega) (by omega), pay6_eq, prod_last V c t ht]

/-- What the last body leaves in the second array. -/
theorem inv_last (c : Dev nD) (t : Fin cfg0.N) (ht : t.val = 11) (j : S1x1.Idx) :
    (outsAt0 V c t.val t.isLt).2.1 j = thr (127#32 - expo (prod (rows V c))) := by
  rw [inv_C V c t (by omega) (by omega), pay7_eq, prod_last V c t ht]

/-- THE SCALE. After the first call its first array holds the number of the field 127 plus the exponent found. -/
theorem scale_arr (c : Dev nD) : (dat0 V c).arrAt 1 cfg0.N = fun _ => thr (127#32 + expo (prod (rows V c))) := by
  refine (dat0 V c).arrAt_eq_of_after_last 1 t0_11 (by decide +kernel) _ fun j => ?_
  blk_simp
  rw [after0_1]
  exact scale_last V c t0_11 rfl _

/-- ITS INVERSE. The second array holds the number of the field 127 less the exponent found. -/
theorem inv_arr (c : Dev nD) : (dat0 V c).arrAt 2 cfg0.N = fun _ => thr (127#32 - expo (prod (rows V c))) := by
  refine (dat0 V c).arrAt_eq_of_after_last 2 t0_11 (by decide +kernel) _ fun j => ?_
  blk_simp
  rw [after0_2]
  exact inv_last V c t0_11 rfl _

end Cert.Proof.Val
-- ==== Proof.Val.Terms.lean ====
/- The numbers that both programs compute, element by element. -/
module

public import Idealize.ShloMosaic.PureOps
public import Idealize.ShloMosaic.PureOps.Ideal
public import Idealize.ShloMosaic.PureOps.Ideal.Laws
public import Idealize.ShloMosaic.Lib.Pointwise

@[expose] public section

noncomputable section

namespace Cert.Proof.Val

open Idealize.ShloMosaic

/-- The code of a number under an inverse scale: the product, kept within the format's range. -/
def code (inv y : EReal) : EReal :=
  min (Ideal.ofBits .f32 0x47600000#32) (max (Ideal.ofBits .f32 0xC7600000#32) (y * inv))

/-- One element of the gradient: the accumulator's number, and the sum over the tokens of the products of the two columns'
    codes, times the two scales. -/
def grad (a : EReal) (x y : Fin 6144 → EReal) (inv xs sc : EReal) : EReal :=
  a + (∑ k : Fin 6144, x k * code inv (y k)) * (xs * sc)

/-- The tokens of the six batches in one row of tokens, by columns: row `r` is token `r % 1024` of batch `r / 1024`. -/
def tok {n : ℕ} (y : (⟨3, ![6, 1024, n]⟩ : Shape).Idx → EReal) (r : Fin 6144) (l : Fin n) : EReal :=
  y (ix3 ⟨r.val / 1024, by omega⟩ ⟨r.val % 1024, by omega⟩ l)

end Cert.Proof.Val
-- ==== Proof.Val.Wgrad.lean ====
/- What the second call leaves: the codes and the new weight gradient as functions of the arrays that it finds. -/
module

public import proofs.«01_k».proof.Proof.KI.Wgrad
public import proofs.«01_k».proof.Proof.Val.Terms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Val

open Idealize.ShloMosaic Idealize.ShloMosaic.TcCoe Cert.KernelIdeal Cert.KernelIdeal.Gen Cert.Proof.KI
open Idealize.ShloMosaic.Pipeline (Dat)

variable (V : (c : Dev nD) → (b : Ref sig .tc) → Buf (Elt Ideal) ((c : Thread nD τ).loc b))

/-- Where the blocks of the second call lie. -/
theorem idx1 : ∀ t : Fin cfg1.N, win1_0.index t = ![0, 0] ∧ win1_1.index t = ![0, 0] ∧ win1_2.index t = ![0, 0]
    ∧ win1_3.index t = ![0, 0] ∧ win1_4.index t = ![0, t.val] ∧ win1_5.index t = ![0, t.val]
    ∧ win1_6.index t = ![0, t.val] ∧ win1_7.index t = ![0, t.val] :=
  (by decide +kernel : ∀ t : Fin grid1.N, _)

/-- One block's codes, element by element. -/
theorem pay1_code (inv : EReal) (Y : FVec Ideal S6144x256 .bf16) (j : S6144x256.Idx) :
    k1_pay1 (F := Ideal) inv Y j = code inv (Y j) := by
  pointwise [k1_pay1, code]

/-- One block's gradient, element by element. -/
theorem pay2_dw (inv xs sc : EReal) (Y : FVec Ideal S6144x256 .bf16) (X : FVec Ideal S6144x1280 .fp8e4m3)
    (A : FVec Ideal S1280x256 .f32) (j : S1280x256.Idx) :
    k1_pay2 (F := Ideal) inv Y X A xs sc j
      = grad (A j) (fun k => X (ix2 k (j 0))) (fun k => Y (ix2 k (j 1))) inv xs sc := by
  unfold k1_pay2 grad
  generalize hP : k1_pay1 (F := Ideal) inv Y = P
  simp only [← pay1_code, hP]
  pointwise []

/-- The scale's block is the one number of its array. -/
theorem one0 (c : Dev nD) (t : Fin cfg1.N) (j : S1x1.Idx) :
    (iblk1 V c 0 t : FVec Ideal S1x1 .f32) j = (V c main_v2_0 : FVec Ideal S1x1 .f32) (ix2 0 0) := by
  idx_vars j
  blk_ext [iblk1, idx1 t]

/-- The inverse's block is the one number of its array. -/
theorem one1 (c : Dev nD) (t : Fin cfg1.N) (j : S1x1.Idx) :
    (iblk1 V c 1 t : FVec Ideal S1x1 .f32) j = (V c main_v2_1 : FVec Ideal S1x1 .f32) (ix2 0 0) := by
  idx_vars j
  blk_ext [iblk1, idx1 t]

/-- The other operand's scale's block is the one number of its array. -/
theorem one2 (c : Dev nD) (t : Fin cfg1.N) (j : S1x1.Idx) :
    (iblk1 V c 2 t : FVec Ideal S1x1 .f32) j = (V c main_v3 : FVec Ideal S1x1 .f32) (ix2 0 0) := by
  idx_vars j
  blk_ext [iblk1, idx1 t]

/-- THE CODES. After the second call its second array holds the code of every number, under the inverse it finds. -/
theorem codes_arr (c : Dev nD) : (dat1 V c).arrAt 7 cfg1.N = fun j : S6144x5120.Idx =>
    code ((V c main_v2_1 : FVec Ideal S1x1 .f32) (ix2 0 0)) ((V c main_v1 : FVec Ideal S6144x5120 .bf16) j) := by
  refine (dat1 V c).arrAt_eq_of_covers 7 _ (by decide +kernel) fun t _ y => ?_
  blk_simp
  rw [after1_7]
  unfold outsAt1
  frame_out
  rw [pay1_code]
  refine (congrArg (fun z => code z _) (one1 V c t _)).trans ?_
  refine congrArg (fun z => code _ z) ?_
  blk_ext [iblk1, idx1 t]

/-- THE GRADIENT. After the second call its first array holds, at every element, the gradient's element over the columns of
    the arrays that the call finds. -/
theorem dw_arr (c : Dev nD) : (dat1 V c).arrAt 6 cfg1.N = fun j : S1280x5120.Idx =>
    grad ((V c main_arg3 : FVec Ideal S1280x5120 .f32) j)
      (fun k => (V c main_v0 : FVec Ideal S6144x1280 .fp8e4m3) (ix2 k (j 0)))
      (fun k => (V c main_v1 : FVec Ideal S6144x5120 .bf16) (ix2 k (j 1)))
      ((V c main_v2_1 : FVec Ideal S1x1 .f32) (ix2 0 0)) ((V c main_v3 : FVec Ideal S1x1 .f32) (ix2 0 0))
      ((V c main_v2_0 : FVec Ideal S1x1 .f32) (ix2 0 0)) := by
  refine (dat1 V c).arrAt_eq_of_covers 6 _ (by decide +kernel) fun t _ y => ?_
  blk_simp
  rw [after1_6]
  unfold outsAt1
  frame_out
  rw [pay2_dw]
  refine (congrArg (fun z => grad _ _ _ z _ _) (one1 V c t _)).trans ?_
  refine (congrArg (fun z => grad _ _ _ _ z _) (one2 V c t _)).trans ?_
  refine (congrArg (fun z => grad _ _ _ _ _ z) (one0 V c t _)).trans ?_
  unfold grad
  blk_point [iblk1, idx1 t]
  rename_i k _
  refine congrArg (fun z : EReal => z * _) ?_
  blk_ext [idx1 t]

end Cert.Proof.Val
-- ==== Proof.Val.KernelRun.lean ====
/- The kernel's run: what its three results hold, as functions of its arguments. -/
module

public import proofs.«01_k».proof.Proof.KI.Run
public import proofs.«01_k».proof.Proof.Val.Amax
public import proofs.«01_k».proof.Proof.Val.Wgrad

@[expose] public section

set_option maxRecDepth 16384

noncomputable section

namespace Cert.Proof.Val

open Idealize.ShloMosaic Idealize.ShloMosaic.TcCoe Cert.KernelIdeal Cert.KernelIdeal.Gen Cert.Proof.KI Idealize.SL.Sem
open Idealize.ShloMosaic.Pipeline (Dat)

variable (m : (ℓ : Loc nD τ sig) → Buf (Elt Ideal) ℓ) (ρ : Dev nD → PrngReg)

/-- Before the first call the output gradient stands as one row of tokens. -/
theorem dy_in (c : Dev nD) (r : Fin 6144) (l : Fin 5120) :
    (W1 m ρ c (Proc.devRef .tc main_v1) : FVec Ideal S6144x5120 .bf16) (ix2 r l)
      = tok (m ((c : Thread nD τ).loc main_arg2)) r l := by
  unfold W1 tok
  entry_read
  pointwise []

/-- Before the first call the other operand's codes stand as one row of tokens. -/
theorem x_in (c : Dev nD) (r : Fin 6144) (l : Fin 1280) :
    (W1 m ρ c (Proc.devRef .tc main_v0) : FVec Ideal S6144x1280 .fp8e4m3) (ix2 r l)
      = tok (m ((c : Thread nD τ).loc main_arg0)) r l := by
  unfold W1 tok
  entry_read
  pointwise []

/-- Before the second call the other operand's scale stands as a one by one array. -/
theorem xs_in (c : Dev nD) :
    (W3 m ρ c (Proc.devRef .tc main_v3) : FVec Ideal S1x1 .f32) (ix2 0 0)
      = (m ((c : Thread nD τ).loc main_arg1) : FVec Ideal S_ .f32) ix0 := by
  have h : W2 m ρ c (Proc.devRef .tc main_arg1) = m ((c : Thread nD τ).loc main_arg1) := W2_args m ρ c _ (by decide)
  rw [← h]
  unfold W3
  generalize W2 m ρ c = σ
  entry_read
  pointwise []

/-- The output gradient's tokens by columns. -/
abbrev dy (c : Dev nD) : Fin 6144 → Fin 5120 → EReal := tok (m ((c : Thread nD τ).loc main_arg2))

/-- The other operand's codes, tokens by columns. -/
abbrev xc (c : Dev nD) : Fin 6144 → Fin 1280 → EReal := tok (m ((c : Thread nD τ).loc main_arg0))

/-- The rows that the first call stages are the output gradient's tokens. -/
theorem rows_eq (c : Dev nD) : rows (V1 m ρ) c = dy m c := by
  funext r l
  exact dy_in m ρ c r l

/-- The scale that the kernel finds. -/
abbrev kscale (c : Dev nD) : EReal := thr (127#32 + expo (prod (dy m c)))

/-- The inverse that the kernel finds. -/
abbrev kinv (c : Dev nD) : EReal := thr (127#32 - expo (prod (dy m c)))

/-- After the first call the scale's array holds the scale. -/
theorem scale_W2 (c : Dev nD) : W2 m ρ c (Proc.devRef .tc main_v2_0) = fun _ : S1x1.Idx => kscale m c :=
  (W2_arr m ρ c 1).trans ((scale_arr (V1 m ρ) c).trans (by rw [rows_eq]; rfl))

/-- After the first call the inverse's array holds the inverse. -/
theorem inv_W2 (c : Dev nD) : W2 m ρ c (Proc.devRef .tc main_v2_1) = fun _ : S1x1.Idx => kinv m c :=
  (W2_arr m ρ c 2).trans ((inv_arr (V1 m ρ) c).trans (by rw [rows_eq]; rfl))

/-- The second call finds the scale. -/
theorem scale_W3 (c : Dev nD) : W3 m ρ c (Proc.devRef .tc main_v2_0) = fun _ : S1x1.Idx => kscale m c :=
  (W3_of m ρ c main_v2_0 (by decide)).trans (scale_W2 m ρ c)

/-- The second call finds the inverse. -/
theorem inv_W3 (c : Dev nD) : W3 m ρ c (Proc.devRef .tc main_v2_1) = fun _ : S1x1.Idx => kinv m c :=
  (W3_of m ρ c main_v2_1 (by decide)).trans (inv_W2 m ρ c)

/-- The second call finds the output gradient as the first did. -/
theorem dy_W3 (c : Dev nD) (r : Fin 6144) (l : Fin 5120) :
    (W3 m ρ c (Proc.devRef .tc main_v1) : FVec Ideal S6144x5120 .bf16) (ix2 r l) = dy m c r l :=
  (congrFun ((W3_of m ρ c main_v1 (by decide)).trans (W2_of m ρ c main_v1 (by decide))) (ix2 r l)).trans (dy_in m ρ c r l)

/-- The second call finds the other operand's codes as the host left them. -/
theorem x_W3 (c : Dev nD) (r : Fin 6144) (l : Fin 1280) :
    (W3 m ρ c (Proc.devRef .tc main_v0) : FVec Ideal S6144x1280 .fp8e4m3) (ix2 r l) = xc m c r l :=
  (congrFun ((W3_of m ρ c main_v0 (by decide)).trans (W2_of m ρ c main_v0 (by decide))) (ix2 r l)).trans (x_in m ρ c r l)

/-- THE KERNEL'S SCALE, at the end. -/
theorem kernel_scale (c : Dev nD) : W4 m ρ c (Proc.devRef .tc main_v2_0) = fun _ : S1x1.Idx => kscale m c :=
  (W4_of m ρ c main_v2_0 (by decide)).trans (scale_W3 m ρ c)

/-- THE KERNEL'S CODES, at the end. -/
theorem kernel_codes (c : Dev nD) : W4 m ρ c (Proc.devRef .tc main_v4_1)
    = fun j : S6144x5120.Idx => code (kinv m c) (dy m c (j 0) (j 1)) := by
  refine (W4_arr m ρ c 7).trans ((codes_arr (V3 m ρ) c).trans ?_)
  funext j
  refine (congrArg (fun z => code z _) (congrFun (inv_W3 m ρ c) (ix2 0 0))).trans ?_
  refine congrArg (fun z => code _ z) ?_
  idx_vars j
  exact dy_W3 m ρ c _ _

/-- THE KERNEL'S GRADIENT, at the end. -/
theorem kernel_dw (c : Dev nD) : W4 m ρ c (Proc.devRef .tc main_v4_0)
    = fun j : S1280x5120.Idx => grad ((m ((c : Thread nD τ).loc main_arg3) : FVec Ideal S1280x5120 .f32) j)
        (fun k => xc m c k (j 0)) (fun k => dy m c k (j 1)) (kinv m c)
        ((m ((c : Thread nD τ).loc main_arg1) : FVec Ideal S_ .f32) ix0) (kscale m c) := by
  refine (W4_arr m ρ c 6).trans ((dw_arr (V3 m ρ) c).trans ?_)
  funext j
  refine (congrArg (fun z => grad _ _ _ z _ _) (congrFun (inv_W3 m ρ c) (ix2 0 0))).trans ?_
  refine (congrArg (fun z => grad _ _ _ _ z _) (xs_in m ρ c)).trans ?_
  refine (congrArg (fun z => grad _ _ _ _ _ z) (congrFun (scale_W3 m ρ c) (ix2 0 0))).trans ?_
  refine (congrArg (fun z => grad z _ _ _ _ _) (congrFun (W3_args m ρ c main_arg3 (by decide)) j)).trans ?_
  refine (congrArg (fun z => grad _ z _ _ _ _) (funext fun k => x_W3 m ρ c k (j 0))).trans ?_
  exact congrArg (fun z => grad _ _ z _ _ _) (funext fun k => dy_W3 m ρ c k (j 1))

end Cert.Proof.Val
-- ==== Proof.Val.RefPay.lean ====
/- What the reference's body computes, element by element. -/
module

public import proofs.«01_k».proof.Proof.Gen.ReferenceIdeal.Skeleton
public import proofs.«01_k».proof.Proof.Val.Terms
public import proofs.«01_k».proof.Proof.Val.Greatest
public import proofs.«01_k».proof.Proof.Val.Exponent
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Val.Ref

open Idealize.ShloMosaic Idealize.ShloMosaic.TcCoe Cert.ReferenceIdeal Cert.ReferenceIdeal.Gen
/-- Zero less a number, as the program writes it. -/
theorem sub_zero_bits (e : EReal) :
    Scalar.subf (F := Ideal) (φ := .f32) (Scalar.ofBits (F := Ideal) .f32 0x00000000#32) e = 0 - e := by
  show Ideal.ofBits .f32 0#32 - e = 0 - e
  rw [show Ideal.ofBits .f32 0#32 = 0 by simp [Ideal.ofBits, Ideal.ieee]]

/-- The program's operations on numbers are those of the reals. -/
theorem exp2_scalar (e : EReal) : Scalar.exp2 (F := Ideal) (φ := .f32) e = Ideal.exp2 e := rfl

/-- The program's operations on numbers are those of the reals. -/
theorem log_scalar (e : EReal) : Scalar.log (F := Ideal) (φ := .f32) e = Ideal.log e := rfl

/-- The program's operations on numbers are those of the reals. -/
theorem floor_scalar (e : EReal) : Scalar.floor (F := Ideal) (φ := .f32) e = Ideal.liftRound Int.floor e := rfl

/-- The argument widened is the argument. -/
theorem pay1_apply (Y : FVec Ideal S6144x5120 .bf16) (j : S6144x5120.Idx) : k0_pay1 (F := Ideal) Y j = Y j := by
  pointwise [k0_pay1]

/-- The product with a number, kept within the format's range, element by element. -/
theorem clip_apply (Z : FVec Ideal S6144x5120 .f32) (s : EReal) (j : S6144x5120.Idx) :
    truncf (F := Ideal) .fp8e5m2 (minimumf (broadcast S6144x5120 (Scalar.ofBits (F := Ideal) .f32 0x47600000#32))
      (maximumf (broadcast S6144x5120 (Scalar.ofBits (F := Ideal) .f32 0xC7600000#32)) (mulf Z (broadcast S6144x5120 s))))
      bitsLt_fp8e5m2_f32 j = code s (Z j) := by
  rfl

/-- The codes, element by element. -/
theorem pay4_apply (Y : FVec Ideal S6144x5120 .bf16) (j : S6144x5120.Idx) :
    k0_pay4 (F := Ideal) Y j = code (Ideal.exp2 (0 - k0_pay2 (F := Ideal) Y)) (Y j) := by
  unfold k0_pay4
  refine (clip_apply _ _ j).trans ?_
  rw [sub_zero_bits, pay1_apply, exp2_scalar]

/-- The gradient, element by element, over the codes and the scale. -/
theorem pay5_sum (Y : FVec Ideal S6144x5120 .bf16) (X : FVec Ideal S6144x1280 .fp8e4m3) (A : FVec Ideal S1280x5120 .f32)
    (xs : EReal) (j : S1280x5120.Idx) :
    k0_pay5 (F := Ideal) Y X A xs j
      = A j + (∑ k : Fin 6144, X (ix2 k (j 0)) * k0_pay4 (F := Ideal) Y (ix2 k (j 1))) * (xs * k0_pay3 (F := Ideal) Y) := by
  unfold k0_pay5
  generalize k0_pay4 (F := Ideal) Y = P
  generalize k0_pay3 (F := Ideal) Y = e
  pointwise []

/-- The scale is the power of two of the exponent. -/
theorem pay3_eq (Y : FVec Ideal S6144x5120 .bf16) : k0_pay3 (F := Ideal) Y = Ideal.exp2 (k0_pay2 (F := Ideal) Y) := by
  unfold k0_pay3
  rw [exp2_scalar]

/-- The gradient, element by element. -/
theorem pay5_apply (Y : FVec Ideal S6144x5120 .bf16) (X : FVec Ideal S6144x1280 .fp8e4m3) (A : FVec Ideal S1280x5120 .f32)
    (xs : EReal) (j : S1280x5120.Idx) :
    k0_pay5 (F := Ideal) Y X A xs j = grad (A j) (fun k => X (ix2 k (j 0))) (fun k => Y (ix2 k (j 1)))
      (Ideal.exp2 (0 - k0_pay2 (F := Ideal) Y)) xs (Ideal.exp2 (k0_pay2 (F := Ideal) Y)) := by
  rw [pay5_sum, pay3_eq]
  simp only [pay4_apply, grad]

/-- The greatest magnitude, as the body writes it. -/
theorem amax_eq (Y : FVec Ideal S6144x5120 .bf16) : amax (fun r l => Y (ix2 r l))
    = Finset.fold max (Ideal.ofBits .f32 4286578688#32)
      (fun x : Fin 6144 × Fin 5120 => FloatOps.absf (F := Ideal) (φ := .f32) (Y (ix2 x.1 x.2))) Finset.univ := by
  rw [show Ideal.ofBits .f32 4286578688#32 = ⊥ by simp [Ideal.ofBits, Ideal.ieee]]
  rfl

/-- The exponent: by the logarithm if the greatest magnitude is above zero, else zero. -/
theorem pay2_if (Y : FVec Ideal S6144x5120 .bf16) :
    k0_pay2 (F := Ideal) Y = if 0 < amax (fun r l => Y (ix2 r l)) then logExpo (prod (fun r l => Y (ix2 r l))) else 0 := by
  have h1 : Ideal.ofBits .f32 0x3F800000#32 = 1 := ofBits_one.trans (by norm_num)
  unfold prod logExpo factor
  rw [amax_eq, h1, ← floor_scalar, ← log_scalar, ← log_scalar]
  pointwise [k0_pay2, k0_pay1]

/-- The factor is above zero. -/
theorem factor_ne : factor ≠ 0 := by
  unfold factor
  simp [Ideal.ofBits, Ideal.ieee]

/-- The exponent: zero if the product is zero, else by the logarithm. -/
theorem pay2_eq (Y : FVec Ideal S6144x5120 .bf16) :
    k0_pay2 (F := Ideal) Y = if prod (fun r l => Y (ix2 r l)) = 0 then 0 else logExpo (prod (fun r l => Y (ix2 r l))) := by
  rw [pay2_if]
  have hn := amax_nonneg (fun r l => Y (ix2 r l))
  have hp : prod (fun r l => Y (ix2 r l)) = 0 ↔ amax (fun r l => Y (ix2 r l)) = 0 := by
    unfold prod
    rw [mul_eq_zero, or_iff_left factor_ne]
  by_cases h : amax (fun r l => Y (ix2 r l)) = 0
  · rw [if_neg (by rw [h]; exact lt_irrefl 0), if_pos (hp.mpr h)]
  · rw [if_pos (lt_of_le_of_ne hn (Ne.symm h)), if_neg (fun h' => h (hp.mp h'))]

end Cert.Proof.Val.Ref
-- ==== Proof.Val.Reference.lean ====
/- What the reference's call leaves, as functions of its arguments. -/
module

public import proofs.«01_k».proof.Proof.Gen.ReferenceIdeal.Value
public import proofs.«01_k».proof.Proof.Val.RefPay
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Val.Ref

open Idealize.ShloMosaic Idealize.ShloMosaic.TcCoe Cert.ReferenceIdeal Cert.ReferenceIdeal.Gen
open Idealize.ShloMosaic.Pipeline (Dat)

variable (m : (ℓ : Loc nD τ sig) → Buf (Elt Ideal) ℓ)

/-- The one point's blocks are the whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The staged operand is the array. -/
theorem blk0 (c : Dev nD) (t : Fin cfg0.N) :
    (iblk m c 0 t : FVec Ideal S6144x1280 .fp8e4m3) = V m c main_v0 := by
  funext j
  idx_vars j
  blk_ext [iblk, idx t]

/-- The staged scale is the number given. -/
theorem blk1 (c : Dev nD) (t : Fin cfg0.N) (j : S1x1.Idx) :
    (iblk m c 1 t : FVec Ideal S1x1 .f32) j = (V m c main_v1 : FVec Ideal S1x1 .f32) (ix2 0 0) := by
  idx_vars j
  blk_ext [iblk, idx t]

/-- The staged output gradient is the array. -/
theorem blk2 (c : Dev nD) (t : Fin cfg0.N) :
    (iblk m c 2 t : FVec Ideal S6144x5120 .bf16) = V m c main_v2 := by
  funext j
  idx_vars j
  blk_ext [iblk, idx t]

/-- The staged accumulator is the array. -/
theorem blk3 (c : Dev nD) (t : Fin cfg0.N) :
    (iblk m c 3 t : FVec Ideal S1280x5120 .f32) = V m c main_arg3 := by
  funext j
  idx_vars j
  blk_ext [iblk, idx t]

/-- THE SCALE. The third array holds the power of two of the exponent. -/
theorem scale_arr (c : Dev nD) : (dats m 0 c).arrAt 6 cfg0.N = fun _ : S1x1.Idx =>
    Ideal.exp2 (k0_pay2 (F := Ideal) (V m c main_v2)) := by
  refine (dats m 0 c).arrAt_eq_of_after_last 6 t0_0 (by decide +kernel) _ fun j => ?_
  blk_simp
  rw [after0_6]
  unfold outsAt0
  frame_out
  simp only [read_unread_whole]
  rw [blk2, pay3_eq]

/-- THE CODES. The second array holds the code of every number. -/
theorem codes_arr (c : Dev nD) : (dats m 0 c).arrAt 5 cfg0.N = fun j : S6144x5120.Idx =>
    code (Ideal.exp2 (0 - k0_pay2 (F := Ideal) (V m c main_v2))) ((V m c main_v2 : FVec Ideal S6144x5120 .bf16) j) := by
  refine (dats m 0 c).arrAt_eq_of_after_last 5 t0_0 (by decide +kernel) _ fun j => ?_
  blk_simp
  rw [after0_5]
  unfold outsAt0
  frame_out
  simp only [read_unread_whole]
  rw [blk2]
  exact pay4_apply (V m c main_v2) j

/-- THE GRADIENT. The first array holds the gradient's elements. -/
theorem dw_arr (c : Dev nD) : (dats m 0 c).arrAt 4 cfg0.N = fun j : S1280x5120.Idx =>
    grad ((V m c main_arg3 : FVec Ideal S1280x5120 .f32) j)
      (fun k => (V m c main_v0 : FVec Ideal S6144x1280 .fp8e4m3) (ix2 k (j 0)))
      (fun k => (V m c main_v2 : FVec Ideal S6144x5120 .bf16) (ix2 k (j 1)))
      (Ideal.exp2 (0 - k0_pay2 (F := Ideal) (V m c main_v2))) ((V m c main_v1 : FVec Ideal S1x1 .f32) (ix2 0 0))
      (Ideal.exp2 (k0_pay2 (F := Ideal) (V m c main_v2))) := by
  refine (dats m 0 c).arrAt_eq_of_after_last 4 t0_0 (by decide +kernel) _ fun j => ?_
  blk_simp
  rw [after0_4]
  unfold outsAt0
  frame_out
  simp only [read_unread_whole]
  rw [blk0, blk2, blk3]
  refine (congrArg (fun z : EReal => k0_pay5 (F := Ideal) (V m c main_v2) (V m c main_v0) (V m c main_arg3) z j)
    (blk1 m c t0_0 _)).trans ?_
  exact pay5_apply (V m c main_v2) (V m c main_v0) (V m c main_arg3) _ j

end Cert.Proof.Val.Ref
-- ==== Proof.Val.ReferenceRun.lean ====
/- The reference's run: what its three results hold, as functions of its arguments. -/
module

public import proofs.«01_k».proof.Proof.Val.Reference

@[expose] public section

set_option maxRecDepth 16384

noncomputable section

namespace Cert.Proof.Val.Ref

open Idealize.ShloMosaic Idealize.ShloMosaic.TcCoe Cert.ReferenceIdeal Cert.ReferenceIdeal.Gen Idealize.SL.Sem

variable (m : (ℓ : Loc nD τ sig) → Buf (Elt Ideal) ℓ)

/-- The call finds the output gradient as one row of tokens. -/
theorem dy_in (c : Dev nD) (r : Fin 6144) (l : Fin 5120) :
    (V m c main_v2 : FVec Ideal S6144x5120 .bf16) (ix2 r l) = tok (m ((c : Thread nD τ).loc main_arg2)) r l := by
  unfold tok
  entry_read
  pointwise []

/-- The call finds the other operand's codes as one row of tokens. -/
theorem x_in (c : Dev nD) (r : Fin 6144) (l : Fin 1280) :
    (V m c main_v0 : FVec Ideal S6144x1280 .fp8e4m3) (ix2 r l) = tok (m ((c : Thread nD τ).loc main_arg0)) r l := by
  unfold tok
  entry_read
  pointwise []

/-- The call finds the other operand's scale as a one by one array. -/
theorem xs_in (c : Dev nD) :
    (V m c main_v1 : FVec Ideal S1x1 .f32) (ix2 0 0) = (m ((c : Thread nD τ).loc main_arg1) : FVec Ideal S_ .f32) ix0 := by
  entry_read
  pointwise []

/-- The output gradient's tokens by columns. -/
abbrev dy (c : Dev nD) : Fin 6144 → Fin 5120 → EReal := tok (m ((c : Thread nD τ).loc main_arg2))

/-- The other operand's codes, tokens by columns. -/
abbrev xc (c : Dev nD) : Fin 6144 → Fin 1280 → EReal := tok (m ((c : Thread nD τ).loc main_arg0))

/-- The exponent that the reference finds: zero if the product is zero, else by the logarithm. -/
def rexp (c : Dev nD) : EReal := if prod (dy m c) = 0 then 0 else logExpo (prod (dy m c))

/-- The body's exponent is that one. -/
theorem exp_eq (c : Dev nD) : k0_pay2 (F := Ideal) (V m c main_v2) = rexp m c := by
  have h : (fun r l => (V m c main_v2 : FVec Ideal S6144x5120 .bf16) (ix2 r l)) = dy m c := by
    funext r l
    exact dy_in m c r l
  rw [pay2_eq, h, rexp]

/-- THE REFERENCE'S SCALE. -/
theorem ref_scale (c : Dev nD) : (dats m 0 c).arrAt 6 cfg0.N = fun _ : S1x1.Idx => Ideal.exp2 (rexp m c) := by
  rw [scale_arr, exp_eq]

/-- THE REFERENCE'S CODES. -/
theorem ref_codes (c : Dev nD) : (dats m 0 c).arrAt 5 cfg0.N
    = fun j : S6144x5120.Idx => code (Ideal.exp2 (0 - rexp m c)) (dy m c (j 0) (j 1)) := by
  rw [codes_arr, exp_eq]
  funext j
  have e : ∀ Y : FVec Ideal S6144x5120 .bf16, Y j = Y (ix2 (j 0) (j 1)) := by
    intro Y
    idx_vars j
  have h : (V m c main_v2 : FVec Ideal S6144x5120 .bf16) j = dy m c (j 0) (j 1) :=
    (e (V m c main_v2)).trans (dy_in m c (j 0) (j 1))
  rw [h]

/-- THE REFERENCE'S GRADIENT. -/
theorem ref_dw (c : Dev nD) : (dats m 0 c).arrAt 4 cfg0.N
    = fun j : S1280x5120.Idx => grad ((m ((c : Thread nD τ).loc main_arg3) : FVec Ideal S1280x5120 .f32) j)
        (fun k => xc m c k (j 0)) (fun k => dy m c k (j 1)) (Ideal.exp2 (0 - rexp m c))
        ((m ((c : Thread nD τ).loc main_arg1) : FVec Ideal S_ .f32) ix0) (Ideal.exp2 (rexp m c)) := by
  rw [dw_arr, exp_eq, xs_in, V_main_arg3]
  funext j
  have hx : (fun k => (V m c main_v0 : FVec Ideal S6144x1280 .fp8e4m3) (ix2 k (j 0))) = fun k => xc m c k (j 0) :=
    funext fun k => x_in m c k (j 0)
  have hy : (fun k => (V m c main_v2 : FVec Ideal S6144x5120 .bf16) (ix2 k (j 1))) = fun k => dy m c k (j 1) :=
    funext fun k => dy_in m c k (j 1)
  rw [hx, hy]

end Cert.Proof.Val.Ref
-- ==== Proof.Val.Range.lean ====
/- What the claim's precondition says of the output gradient: the product is zero or an ordinary number well inside
   the range of exponents. -/
module

public import proofs.«01_k».proof.Pre_scale_in_range
public import proofs.«01_k».proof.Proof.Val.Greatest
public import proofs.«01_k».proof.Proof.Val.Terms
public import Idealize.ShloMosaic.PureOps.Reduce
public import Idealize.ShloMosaic.Lib.Affine

@[expose] public section

set_option maxRecDepth 16384

noncomputable section

namespace Cert.Proof.Val

open Idealize.ShloMosaic Cert.Pre_scale_in_range Cert.Pre_scale_in_range.Facts

variable [Cert.Pre_scale_in_range.Facts]

/-- An element of the three-dimensional array is an element of the tokens by columns. -/
theorem tok_row (x : S6x1024x5120.Idx → EReal) (i : S6x1024x5120.Idx) (h : (i 0).val * 1024 + (i 1).val < 6144) :
    tok x ⟨(i 0).val * 1024 + (i 1).val, h⟩ (i 2) = x i := by
  have h1 : (i 1).val < 1024 := (i 1).isLt
  unfold tok
  congr 1
  funext a
  match a with
  | 0 => exact Fin.ext (show ((i 0).val * 1024 + (i 1).val) / 1024 = (i 0).val by omega)
  | 1 => exact Fin.ext (show ((i 0).val * 1024 + (i 1).val) % 1024 = (i 1).val by omega)
  | 2 => rfl

/-- The predicate's reduction is the greatest magnitude. -/
theorem pre_amax (x : FVec Ideal S6x1024x5120 .bf16) (j : S_.Idx) :
    Host.reduce FloatOps.maximumf (Host.absf (extf .f32 x bitsLt_bf16_f32)) (constant (F := Ideal) S_ .f32 0xFF800000#32)
      reducesTo_S6x1024x5120_S_d0_1_2 h_S_ j = amax (tok x) := by
  refine eq_amax _ _ fun b => ?_
  rw [Host.reduce_eq_fold]
  show Finset.fold max (Ideal.ofBits .f32 0xFF800000#32) (fun i : S6x1024x5120.Idx => mag (x i)) _ ≤ b ↔ _
  rw [Finset.fold_max_le, show Ideal.ofBits .f32 0xFF800000#32 = ⊥ by simp [Ideal.ofBits, Ideal.ieee]]
  refine ⟨fun h r l => h.2 (ix3 ⟨r.val / 1024, by omega⟩ ⟨r.val % 1024, by omega⟩ l)
    (Finset.mem_filter.mpr ⟨Finset.mem_univ _, funext fun a => a.elim0⟩), fun h => ⟨bot_le, fun i _ => ?_⟩⟩
  have h0 : (i 0).val < 6 := (i 0).isLt
  have h1 : (i 1).val < 1024 := (i 1).isLt
  rw [← tok_row x i (by omega)]
  exact h _ _

/-- The least of the ordinary numbers. -/
theorem ofBits_least : Ideal.ofBits .f32 0x00800000#32 = (((2 : ℝ) ^ (-126 : ℤ) : ℝ) : EReal) := by
  simp [Ideal.ofBits, Ideal.ieee, -EReal.coe_mul]; norm_num

/-- The bound on the large side. -/
theorem ofBits_large : Ideal.ofBits .f32 0x7E800000#32 = (((2 : ℝ) ^ (126 : ℤ) : ℝ) : EReal) := by
  rw [show (2 : ℝ) ^ (126 : ℤ) = 85070591730234615865843651857942052864 by norm_num]
  simp [Ideal.ofBits, Ideal.ieee, -EReal.coe_mul]; norm_num

/-- A bit that says a proposition is one when the proposition holds. -/
theorem bit_eq_one (P : Prop) [Decidable P] : BitVec.ofBool (decide P) = 1#1 ↔ P := by
  by_cases h : P <;> simp [h]

/-- The comparisons that the predicate makes of the greatest magnitude. -/
def compared {F : FTy → Type} [FloatOps F] (A : FVec F S_ .f32) : IVec S_ 1 :=
  ori (cmpf .oeq (mulf A (constant S_ .f32 0x37924925#32)) (constant S_ .f32 0x00000000#32))
    (andi (cmpf .oge (mulf A (constant S_ .f32 0x37924925#32)) (constant S_ .f32 0x00800000#32))
      (cmpf .olt (mulf A (constant S_ .f32 0x37924925#32)) (constant S_ .f32 0x7E800000#32)))

/-- The predicate is those comparisons of its reduction. -/
theorem fn_eq {F : FTy → Type} [FloatOps F] (x0 : FVec F S6x1024x1280 .fp8e4m3) (x1 : FVec F S_ .f32)
    (x2 : FVec F S6x1024x5120 .bf16) (x3 : FVec F S1280x5120 .f32) :
    fn x0 x1 x2 x3 = compared (Host.reduce FloatOps.maximumf (Host.absf (extf .f32 x2 bitsLt_bf16_f32))
      (constant S_ .f32 0xFF800000#32) reducesTo_S6x1024x5120_S_d0_1_2 h_S_) := by
  unfold fn compared
  rfl

/-- The comparisons, of a number. -/
theorem compared_apply (A : FVec Ideal S_ .f32) (j : S_.Idx) : compared A j
    = IntOp.ori (Ideal.cmp .oeq (A j * factor) (Ideal.ofBits .f32 0#32))
      (IntOp.andi (Ideal.cmp .oge (A j * factor) (Ideal.ofBits .f32 0x00800000#32))
        (Ideal.cmp .olt (A j * factor) (Ideal.ofBits .f32 0x7E800000#32))) := rfl

/-- The comparisons hold of a number that is zero or in the range. -/
theorem compared_range (A : FVec Ideal S_ .f32) (j : S_.Idx) (h : compared A j = 1#1) :
    A j * factor = 0 ∨ ((((2 : ℝ) ^ (-126 : ℤ) : ℝ) : EReal) ≤ A j * factor
      ∧ A j * factor < (((2 : ℝ) ^ (126 : ℤ) : ℝ) : EReal)) := by
  rw [compared_apply, IntOp.ori_eq_one, IntOp.andi_eq_one, ofBits_least, ofBits_large,
    show Ideal.ofBits .f32 0#32 = 0 by simp [Ideal.ofBits, Ideal.ieee]] at h
  generalize A j * factor = p at h ⊢
  generalize (((2 : ℝ) ^ (-126 : ℤ) : ℝ) : EReal) = lo at h ⊢
  generalize (((2 : ℝ) ^ (126 : ℤ) : ℝ) : EReal) = hi at h ⊢
  unfold Ideal.cmp at h
  simpa [bit_eq_one] using h

/-- THE PRECONDITION, READ: the product is zero, or at least `2 ^ (-126)` and below `2 ^ 126`. -/
theorem in_range (x0 : FVec Ideal S6x1024x1280 .fp8e4m3) (x1 : FVec Ideal S_ .f32) (x2 : FVec Ideal S6x1024x5120 .bf16)
    (x3 : FVec Ideal S1280x5120 .f32) (h : Cert.Pre_scale_in_range.fn (F := Ideal) x0 x1 x2 x3 = fun _ => 1#1) :
    prod (tok x2) = 0 ∨ ((((2 : ℝ) ^ (-126 : ℤ) : ℝ) : EReal) ≤ prod (tok x2)
      ∧ prod (tok x2) < (((2 : ℝ) ^ (126 : ℤ) : ℝ) : EReal)) := by
  rw [fn_eq] at h
  have e := compared_range _ ix0 (congrFun h ix0)
  rw [pre_amax] at e
  unfold prod
  exact e

end Cert.Proof.Val

end
-- ==== Proof.lean ====
module

public import proofs.«01_k».proof.Defs
public import proofs.«01_k».proof.Proof.KB.Run
public import proofs.«01_k».proof.Proof.KI.Run
public import proofs.«01_k».proof.Proof.Gen.ReferenceIdeal.Frame
public import proofs.«01_k».proof.Proof.Val.KernelRun
public import proofs.«01_k».proof.Proof.Val.ReferenceRun
public import proofs.«01_k».proof.Proof.Val.Exponent
public import proofs.«01_k».proof.Proof.Val.Range
public import proofs.«01_k».proof.Proof.Gen.ReferenceIdeal.Value
public import proofs.«01_k».proof.Proof.Gen.Pre_scale_in_range

@[expose] public section

noncomputable section

namespace Cert.Proof

open Idealize.ShloMosaic Idealize.SL.Sem

/-- The reference's inverse and scale, of the same arguments, are the kernel's where the product is in range. -/
theorem scales_agree [Cert.Pre_scale_in_range.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_scale_in_range m) (c : Dev Cert.KernelIdeal.nD) (hdy : Val.Ref.dy m' c = Val.dy m c) :
    Val.kscale m c = Ideal.exp2 (Val.Ref.rexp m' c) ∧ Val.kinv m c = Ideal.exp2 (0 - Val.Ref.rexp m' c) := by
  refine Val.scales (Val.prod (Val.dy m c)) (Val.in_range _ _ _ _ (hp c)) (Val.Ref.rexp m' c) ?_
  rw [Val.Ref.rexp, hdy]

/-- THE VALUE CLAIM: from equal arguments, the product in range, the kernel's gradient, codes and scale are the
    reference's. -/
theorem value [Cert.Pre_scale_in_range.Facts] : Cert.algebraic_KernelIdeal_ReferenceIdeal_pre_scale_in_range
    (hKernelIdeal := Cert.KernelIdeal.Gen.facts) (hReferenceIdeal := Cert.ReferenceIdeal.Gen.facts) := by
  intro m g m' g' hp hm
  have hdy : ∀ c, Val.Ref.dy m' c = Val.dy m c := fun c => congrArg Val.tok (hm c).2.2.1
  have hx : ∀ c, Val.Ref.xc m' c = Val.xc m c := fun c => congrArg Val.tok (hm c).1
  refine ⟨_, _, _,
    (θ_run Cert.KernelIdeal.defs _ _).mono (fun r h c =>
      ⟨(h.1 c _ (KI.mem_uc Cert.KernelIdeal.main_v4_0 (by decide))).trans (Val.kernel_dw m g c),
       (h.1 c _ (KI.mem_uc Cert.KernelIdeal.main_v4_1 (by decide))).trans (Val.kernel_codes m g c),
       (h.1 c _ (KI.mem_uc Cert.KernelIdeal.main_v2_0 (by decide))).trans (Val.kernel_scale m g c),
       (h.1 c _ (KI.mem_uc Cert.KernelIdeal.main_arg0 (by decide))).trans (KI.W4_main_arg0 m g c),
       (h.1 c _ (KI.mem_uc Cert.KernelIdeal.main_arg1 (by decide))).trans (KI.W4_main_arg1 m g c),
       (h.1 c _ (KI.mem_uc Cert.KernelIdeal.main_arg2 (by decide))).trans (KI.W4_main_arg2 m g c),
       (h.1 c _ (KI.mem_uc Cert.KernelIdeal.main_arg3 (by decide))).trans (KI.W4_main_arg3 m g c)⟩) (KI.run_all m g),
    (θ_run Cert.ReferenceIdeal.defs _ _).mono (fun r h c => ?_) (Cert.ReferenceIdeal.Value.run_blocks m' g')⟩
  obtain ⟨h0, h1, h2, ha⟩ := h c
  obtain ⟨hs, hi⟩ := scales_agree m m' hp c (hdy c)
  refine ⟨h0.trans ?_, h1.trans ?_, h2.trans ?_, ha⟩
  · rw [Val.Ref.ref_dw, hdy, hx, (hm c).2.1, (hm c).2.2.2, ← hs, ← hi]
  · rw [Val.Ref.ref_codes, hdy, ← hi]
  · rw [Val.Ref.ref_scale, ← hs]

/-- Every claim of the certificate. -/
theorem claim : Cert.Claim :=
  ⟨Cert.Kernel.Gen.facts, Cert.KernelIdeal.Gen.facts, Cert.ReferenceIdeal.Gen.facts, Cert.Pre_scale_in_range.Gen.facts,
    fun m g _ => Cert.Proof.KB.frame m g,
    fun m g _ => Cert.Proof.KI.frame m g,
    fun m g _ => Cert.Proof.KI.frame m g,
    fun m g _ => Cert.ReferenceIdeal.Gen.frame m g,
    fun m g _ => Cert.ReferenceIdeal.Gen.frame m g,
    trivial, value⟩

end Cert.Proof

end
